-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pixel_grid [hPre_pixel_grid : Cert.Pre_pixel_grid.Facts] (m : (ℓ : Loc Cert.KernelIdeal.nD Cert.KernelIdeal.τ Cert.KernelIdeal.sig) → Buf (Elt Ideal) ℓ) : Prop :=
  ∀ c : Dev Cert.KernelIdeal.nD,
    (Cert.Pre_pixel_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pixel_grid [hPre_pixel_grid : Cert.Pre_pixel_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pixel_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_pixel_grid [hKernelIdeal : Cert.KernelIdeal.Facts] [hPre_pixel_grid : Cert.Pre_pixel_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pixel_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_pixel_grid [hReferenceIdeal : Cert.ReferenceIdeal.Facts] [hPre_pixel_grid : Cert.Pre_pixel_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pixel_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_pixel_grid [hKernelIdeal : Cert.KernelIdeal.Facts] [hReferenceIdeal : Cert.ReferenceIdeal.Facts] [hPre_pixel_grid : Cert.Pre_pixel_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pixel_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_pixel_grid : Cert.Pre_pixel_grid.Facts),
    quiescent_Kernel (hKernel := hKernel)
    ∧ quiescent_KernelIdeal (hKernelIdeal := hKernelIdeal)
    ∧ quiescent_KernelIdeal_pre_pixel_grid (hKernelIdeal := hKernelIdeal) (hPre_pixel_grid := hPre_pixel_grid)
    ∧ quiescent_ReferenceIdeal (hReferenceIdeal := hReferenceIdeal)
    ∧ quiescent_ReferenceIdeal_pre_pixel_grid (hReferenceIdeal := hReferenceIdeal) (hPre_pixel_grid := hPre_pixel_grid)
    ∧ preserves_Kernel_KernelIdeal
    ∧ algebraic_KernelIdeal_ReferenceIdeal_pre_pixel_grid (hKernelIdeal := hKernelIdeal) (hReferenceIdeal := hReferenceIdeal) (hPre_pixel_grid := hPre_pixel_grid)
-- ==== Pre_pixel_grid.lean ====
abbrev S1x32 : Shape := ⟨2, ![1, 32]⟩
abbrev S1024x1024x32 : Shape := ⟨3, ![1024, 1024, 32]⟩
abbrev S32x32 : Shape := ⟨2, ![32, 32]⟩
abbrev S32 : Shape := ⟨1, ![32]⟩
abbrev S32x1 : Shape := ⟨2, ![32, 1]⟩
abbrev S1 : Shape := ⟨1, ![1]⟩
abbrev S1048576x2 : Shape := ⟨2, ![1048576, 2]⟩
abbrev S1048576 : Shape := ⟨1, ![1048576]⟩
abbrev S1024x1024 : Shape := ⟨2, ![1024, 1024]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  shapeCasts_S1048576_S1024x1024 : S1048576.ShapeCasts S1024x1024
  reducesTo_S1024x1024_S_d0_1 : S1024x1024.ReducesTo [0, 1] S_
  bcast_S_S1024x1024 : S_.BroadcastsInDim S1024x1024 (![] : Fin 0 → Fin S1024x1024.rank)

variable [Facts]

def fn_part1 {F : FTy → Type} [FloatOps F] (main_arg12 : IVec S1048576 32) (main_v0 : IVec S1024x1024 32) (main_v12 : IVec S_ 1) (main_v13 : IVec S1024x1024 32) (main_v17 : IVec S1024x1024 32) : IVec S_ 1 :=
  let main_v18 : IVec S1024x1024 1 := cmpi .eq main_v13 main_v17
  let main_c_4 : IVec S_ 1 := constantI S_ 1 1#1
  let main_v19 : IVec S_ 1 := (fun x v => Host.reduce IntOp.andi x v reducesTo_S1024x1024_S_d0_1 h_S_) main_v18 main_c_4
  let main_v20 : IVec S_ 1 := andi main_v12 main_v19
  let main_v21 : IVec S1024x1024 32 := shapeCast S1024x1024 main_arg12 shapeCasts_S1048576_S1024x1024
  let main_c_5 : IVec S_ 32 := constantI S_ 32 1#32
  let main_v22 : IVec S1024x1024 32 := broadcastInDim S1024x1024 ![] bcast_S_S1024x1024 main_c_5
  let main_v23 : IVec S1024x1024 32 := addi main_v0 main_v22
  let main_c_6 : IVec S_ 32 := constantI S_ 32 1023#32
  let main_v24 : IVec S1024x1024 32 := broadcastInDim S1024x1024 ![] bcast_S_S1024x1024 main_c_6
  let main_v25 : IVec S1024x1024 32 := minsi main_v23 main_v24
  let main_v26 : IVec S1024x1024 1 := cmpi .eq main_v21 main_v25
  let main_c_7 : IVec S_ 1 := constantI S_ 1 1#1
  let main_v27 : IVec S_ 1 := (fun x v => Host.reduce IntOp.andi x v reducesTo_S1024x1024_S_d0_1 h_S_) main_v26 main_c_7
  let main_v28 : IVec S_ 1 := andi main_v20 main_v27
  main_v28

def fn {F : FTy → Type} [FloatOps F] (main_arg0 : FVec F S1x32 .f32) (main_arg1 : FVec F S1024x1024x32 .f32) (main_arg2 : FVec F S32x32 .f32) (main_arg3 : FVec F S32 .f32) (main_arg4 : FVec F S32x32 .f32) (main_arg5 : FVec F S32 .f32) (main_arg6 : FVec F S32x1 .f32) (main_arg7 : FVec F S1 .f32) (main_arg8 : FVec F S1048576x2 .f32) (main_arg9 : IVec S1048576 32) (main_arg10 : IVec S1048576 32) (main_arg11 : IVec S1048576 32) (main_arg12 : IVec S1048576 32) : IVec S_ 1 :=
  let main_v0 : IVec S1024x1024 32 := iotaInDim S1024x1024 32 0
  let main_v1 : IVec S1024x1024 32 := iotaInDim S1024x1024 32 1
  let main_cst : FVec F S_ .f32 := constant S_ .f32 0x3F000000#32
  let main_v2 : FVec F S1048576x2 .f32 := broadcastInDim S1048576x2 ![] bcast_S_S1048576x2 main_cst
  let main_v3 : IVec S1048576x2 1 := cmpf .oeq main_arg8 main_v2
  let main_c : IVec S_ 1 := constantI S_ 1 1#1
  let main_v4 : IVec S_ 1 := (fun x v => Host.reduce IntOp.andi x v reducesTo_S1048576x2_S_d0_1 h_S_) main_v3 main_c
  let main_v5 : IVec S1024x1024 32 := shapeCast S1024x1024 main_arg9 shapeCasts_S1048576_S1024x1024
  let main_v6 : IVec S1024x1024 1 := cmpi .eq main_v5 main_v1
  let main_c_0 : IVec S_ 1 := constantI S_ 1 1#1
  let main_v7 : IVec S_ 1 := (fun x v => Host.reduce IntOp.andi x v reducesTo_S1024x1024_S_d0_1 h_S_) main_v6 main_c_0
  let main_v8 : IVec S_ 1 := andi main_v4 main_v7
  let main_v9 : IVec S1024x1024 32 := shapeCast S1024x1024 main_arg10 shapeCasts_S1048576_S1024x1024
  let main_v10 : IVec S1024x1024 1 := cmpi .eq main_v9 main_v0
  let main_c_1 : IVec S_ 1 := constantI S_ 1 1#1
  let main_v11 : IVec S_ 1 := (fun x v => Host.reduce IntOp.andi x v reducesTo_S1024x1024_S_d0_1 h_S_) main_v10 main_c_1
  let main_v12 : IVec S_ 1 := andi main_v8 main_v11
  let main_v13 : IVec S1024x1024 32 := shapeCast S1024x1024 main_arg11 shapeCasts_S1048576_S1024x1024
  let main_c_2 : IVec S_ 32 := constantI S_ 32 1#32
  let main_v14 : IVec S1024x1024 32 := broadcastInDim S1024x1024 ![] bcast_S_S1024x1024 main_c_2
  let main_v15 : IVec S1024x1024 32 := addi main_v1 main_v14
  let main_c_3 : IVec S_ 32 := constantI S_ 32 1023#32
  let main_v16 : IVec S1024x1024 32 := broadcastInDim S1024x1024 ![] bcast_S_S1024x1024 main_c_3
  let main_v17 : IVec S1024x1024 32 := minsi main_v15 main_v16
  fn_part1 (F := F) main_arg12 main_v0 main_v12 main_v13 main_v17
-- ==== Kernel.lean ====
abbrev S1x32 : Shape := ⟨2, ![1, 32]⟩
abbrev S1024x1024x32 : Shape := ⟨3, ![1024, 1024, 32]⟩
abbrev S32x32 : Shape := ⟨2, ![32, 32]⟩
abbrev S32 : Shape := ⟨1, ![32]⟩
abbrev S32x1 : Shape := ⟨2, ![32, 1]⟩
abbrev S1 : Shape := ⟨1, ![1]⟩
abbrev S1048576x2 : Shape := ⟨2, ![1048576, 2]⟩
abbrev S1048576 : Shape := ⟨1, ![1048576]⟩
abbrev S1024x256x128 : Shape := ⟨3, ![1024, 256, 128]⟩
abbrev S4x4 : Shape := ⟨2, ![4, 4]⟩
abbrev S_ : Shape := ⟨0, ![]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S4x32 : Shape := ⟨2, ![4, 32]⟩
abbrev S128 : Shape := ⟨1, ![128]⟩
abbrev S1x128 : Shape := ⟨2, ![1, 128]⟩
abbrev S1x32x1x1 : Shape := ⟨4, ![1, 32, 1, 1]⟩
abbrev S4x32x4x1 : Shape := ⟨4, ![4, 32, 4, 1]⟩
abbrev S128x4 : Shape := ⟨2, ![128, 4]⟩
abbrev S1x1 : Shape := ⟨2, ![1, 1]⟩
abbrev S4x1 : Shape := ⟨2, ![4, 1]⟩
abbrev S4 : Shape := ⟨1, ![4]⟩
abbrev S1x4 : Shape := ⟨2, ![1, 4]⟩
abbrev S1024x256x4 : Shape := ⟨3, ![1024, 256, 4]⟩
abbrev S16x256x128 : Shape := ⟨3, ![16, 256, 128]⟩
abbrev S1x256x128 : Shape := ⟨3, ![1, 256, 128]⟩
abbrev S16x256x4 : Shape := ⟨3, ![16, 256, 4]⟩
abbrev S17x256x128 : Shape := ⟨3, ![17, 256, 128]⟩
abbrev S17x255x128 : Shape := ⟨3, ![17, 255, 128]⟩
abbrev S17x1x128 : Shape := ⟨3, ![17, 1, 128]⟩
abbrev S17x256x96 : Shape := ⟨3, ![17, 256, 96]⟩
abbrev S17x256x32 : Shape := ⟨3, ![17, 256, 32]⟩
abbrev S4096x128 : Shape := ⟨2, ![4096, 128]⟩
abbrev S4096x4 : Shape := ⟨2, ![4096, 4]⟩
abbrev S1x1x1024x1024 : Shape := ⟨4, ![1, 1, 1024, 1024]⟩

abbrev nBuf : Space → Nat
  | .hbm => 56
  | .vmem => 12
  | .smem => 0
  | _ => 0

abbrev bufTy : (tb : Table) → Fin (tcTables nBuf tb) → BufTy
  | .hbm, ⟨0, _⟩ => ⟨S1x32, .f32⟩
  | .hbm, ⟨1, _⟩ => ⟨S1024x1024x32, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1048576x2, .f32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1024x256x128, .f32⟩
  | .hbm, ⟨14, _⟩ => ⟨S4x4, .i32⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i1⟩
  | .hbm, ⟨20, _⟩ => ⟨S4x4, .f32⟩
  | .hbm, ⟨21, _⟩ => ⟨S4x1x4x1, .f32⟩
  | .hbm, ⟨22, _⟩ => ⟨S1x32x1x32, .f32⟩
  | .hbm, ⟨23, _⟩ => ⟨S4x32x4x32, .f32⟩
  | .hbm, ⟨24, _⟩ => ⟨S4x32x4x32, .f32⟩
  | .hbm, ⟨25, _⟩ => ⟨S4x32x4x32, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S1x32, .f32⟩
  | .hbm, ⟨31, _⟩ => ⟨S4x32, .f32⟩
  | .hbm, ⟨32, _⟩ => ⟨S128, .f32⟩
  | .hbm, ⟨33, _⟩ => ⟨S1x128, .f32⟩
  | .hbm, ⟨34, _⟩ => ⟨S4x1x4x1, .f32⟩
  | .hbm, ⟨35, _⟩ => ⟨S1x32x1x32, .f32⟩
  | .hbm, ⟨36, _⟩ => ⟨S4x32x4x32, .f32⟩
  | .hbm, ⟨37, _⟩ => ⟨S4x32x4x32, .f32⟩
  | .hbm, ⟨38, _⟩ => ⟨S4x32x4x32, .f32⟩
  | .hbm, ⟨39, _⟩ => ⟨S128x128, .f32⟩
  | .hbm, ⟨40, _⟩ => ⟨S1x32, .f32⟩
  | .hbm, ⟨41, _⟩ => ⟨S4x32, .f32⟩
  | .hbm, ⟨42, _⟩ => ⟨S128, .f32⟩
  | .hbm, ⟨43, _⟩ => ⟨S1x128, .f32⟩
  | .hbm, ⟨44, _⟩ => ⟨S4x1x4x1, .f32⟩
  | .hbm, ⟨45, _⟩ => ⟨S1x32x1x1, .f32⟩
  | .hbm, ⟨46, _⟩ => ⟨S4x32x4x1, .f32⟩
  | .hbm, ⟨47, _⟩ => ⟨S4x32x4x1, .f32⟩
  | .hbm, ⟨48, _⟩ => ⟨S4x32x4x1, .f32⟩
  | .hbm, ⟨49, _⟩ => ⟨S128x4, .f32⟩
  | .hbm, ⟨50, _⟩ => ⟨S1x1, .f32⟩
  | .hbm, ⟨51, _⟩ => ⟨S4x1, .f32⟩
  | .hbm, ⟨52, _⟩ => ⟨S4, .f32⟩
  | .hbm, ⟨53, _⟩ => ⟨S1x4, .f32⟩
  | .hbm, ⟨54, _⟩ => ⟨S1024x256x4, .f32⟩
  | .hbm, ⟨55, _⟩ => ⟨S1x1x1024x1024, .f32⟩
  | .local _ .vmem, ⟨0, _⟩ => ⟨S16x256x128, .f32⟩
  | .local _ .vmem, ⟨1, _⟩ => ⟨S16x256x128, .f32⟩
  | .local _ .vmem, ⟨2, _⟩ => ⟨S1x256x128, .f32⟩
  | .local _ .vmem, ⟨3, _⟩ => ⟨S1x256x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x4, .f32⟩
  | .local _ .vmem, ⟨9, _⟩ => ⟨S1x4, .f32⟩
  | .local _ .vmem, ⟨10, _⟩ => ⟨S16x256x4, .f32⟩
  | .local _ .vmem, ⟨11, _⟩ => ⟨S16x256x4, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![v2.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x256x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x32 : Shape := ⟨2, ![1, 32]⟩
abbrev S1024x1024x32 : Shape := ⟨3, ![1024, 1024, 32]⟩
abbrev S32x32 : Shape := ⟨2, ![32, 32]⟩
abbrev S32 : Shape := ⟨1, ![32]⟩
abbrev S32x1 : Shape := ⟨2, ![32, 1]⟩
abbrev S1 : Shape := ⟨1, ![1]⟩
abbrev S1048576x2 : Shape := ⟨2, ![1048576, 2]⟩
abbrev S1048576 : Shape := ⟨1, ![1048576]⟩
abbrev S_ : Shape := ⟨0, ![]⟩
abbrev S1048576x1 : Shape := ⟨2, ![1048576, 1]⟩
abbrev S1048576x32 : Shape := ⟨2, ![1048576, 32]⟩
abbrev S1x1 : Shape := ⟨2, ![1, 1]⟩
abbrev S1x1x1024x1024 : Shape := ⟨4, ![1, 1, 1024, 1024]⟩

abbrev nBuf : Space → Nat
  | .hbm => 133
  | .vmem => 0
  | .smem => 0
  | _ => 0

abbrev hbmTy0_0 (i : Nat) : BufTy := match i % 128 with
  | 0 => ⟨S1x32, .f32⟩
  | 1 => ⟨S1024x1024x32, .f32⟩
  | 2 => ⟨S32x32, .f32⟩
  | 3 => ⟨S32, .f32⟩
  | 4 => ⟨S32x32, .f32⟩
  | 5 => ⟨S32, .f32⟩
  | 6 => ⟨S32x1, .f32⟩
  | 7 => ⟨S1, .f32⟩
  | 8 => ⟨S1048576x2, .f32⟩
  | 9 => ⟨S1048576, .i32⟩
  | 10 => ⟨S1048576, .i32⟩
  | 11 => ⟨S1048576, .i32⟩
  | 12 => ⟨S1048576, .i32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S1048576x1, .i32⟩
  | 28 => ⟨S1048576x1, .i32⟩
  | 29 => ⟨S1048576x2, .i32⟩
  | 30 => ⟨S1048576x32, .f32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S1048576x1, .i32⟩
  | 46 => ⟨S1048576x1, .i32⟩
  | 47 => ⟨S1048576x2, .i32⟩
  | 48 => ⟨S1048576x32, .f32⟩
  | 49 => ⟨S_, .i32⟩
  | 50 => ⟨S1048576, .i32⟩
  | 51 => ⟨S1048576, .i1⟩
  | 52 => ⟨S_, .i32⟩
  | 53 => ⟨S1048576, .i32⟩
  | 54 => ⟨S1048576, .i32⟩
  | 55 => ⟨S1048576, .i32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S1048576x1, .i32⟩
  | 64 => ⟨S1048576x1, .i32⟩
  | 65 => ⟨S1048576x2, .i32⟩
  | 66 => ⟨S1048576x32, .f32⟩
  | 67 => ⟨S_, .i32⟩
  | 68 => ⟨S1048576, .i32⟩
  | 69 => ⟨S1048576, .i1⟩
  | 70 => ⟨S_, .i32⟩
  | 71 => ⟨S1048576, .i32⟩
  | 72 => ⟨S1048576, .i32⟩
  | 73 => ⟨S1048576, .i32⟩
  | 74 => ⟨S_, .i32⟩
  | 75 => ⟨S1048576, .i32⟩
  | 76 => ⟨S1048576, .i1⟩
  | 77 => ⟨S_, .i32⟩
  | 78 => ⟨S1048576, .i32⟩
  | 79 => ⟨S1048576, .i32⟩
  | 80 => ⟨S1048576, .i32⟩
  | 81 => ⟨S1048576x1, .i32⟩
  | 82 => ⟨S1048576x1, .i32⟩
  | 83 => ⟨S1048576x2, .i32⟩
  | 84 => ⟨S1048576x32, .f32⟩
  | 85 => ⟨S1048576x1, .f32⟩
  | 86 => ⟨S1048576x1, .f32⟩
  | 87 => ⟨S_, .f32⟩
  | 88 => ⟨S1048576x1, .f32⟩
  | 89 => ⟨S1048576x1, .f32⟩
  | 90 => ⟨S_, .f32⟩
  | 91 => ⟨S1048576x1, .f32⟩
  | 92 => ⟨S1048576x1, .f32⟩
  | 93 => ⟨S1048576x1, .f32⟩
  | 94 => ⟨S_, .f32⟩
  | 95 => ⟨S1048576x1, .f32⟩
  | 96 => ⟨S1048576x1, .f32⟩
  | 97 => ⟨S1048576x1, .f32⟩
  | 98 => ⟨S_, .f32⟩
  | 99 => ⟨S1048576x1, .f32⟩
  | 100 => ⟨S1048576x1, .f32⟩
  | 101 => ⟨S1048576x1, .f32⟩
  | 102 => ⟨S1048576x1, .f32⟩
  | 103 => ⟨S1048576x32, .f32⟩
  | 104 => ⟨S1048576x32, .f32⟩
  | 105 => ⟨S1048576x32, .f32⟩
  | 106 => ⟨S1048576x32, .f32⟩
  | 107 => ⟨S1048576x32, .f32⟩
  | 108 => ⟨S1048576x32, .f32⟩
  | 109 => ⟨S1048576x32, .f32⟩
  | 110 => ⟨S1048576x32, .f32⟩
  | 111 => ⟨S1048576x32, .f32⟩
  | 112 => ⟨S1048576x32, .f32⟩
  | 113 => ⟨S1048576x32, .f32⟩
  | 114 => ⟨S1048576x32, .f32⟩
  | 115 => ⟨S1x32, .f32⟩
  | 116 => ⟨S1048576x32, .f32⟩
  | 117 => ⟨S1048576x32, .f32⟩
  | 118 => ⟨S_, .f32⟩
  | 119 => ⟨S1048576x32, .f32⟩
  | 120 => ⟨S1048576x32, .f32⟩
  | 121 => ⟨S1048576x32, .f32⟩
  | 122 => ⟨S1x32, .f32⟩
  | 123 => ⟨S1048576x32, .f32⟩
  | 124 => ⟨S1048576x32, .f32⟩
  | 125 => ⟨S_, .f32⟩
  | 126 => ⟨S1048576x32, .f32⟩
  | 127 => ⟨S1048576x32, .f32⟩
  | _ => ⟨S1x32, .f32⟩

abbrev hbmTy0_1 (i : Nat) : BufTy := match i % 128 with
  | 0 => ⟨S1048576x1, .f32⟩
  | 1 => ⟨S1x1, .f32⟩
  | 2 => ⟨S1048576x1, .f32⟩
  | 3 => ⟨S1048576x1, .f32⟩
  | 4 => ⟨S1x1x1024x1024, .f32⟩
  | _ => ⟨S1x32, .f32⟩

abbrev hbmTy (i : Nat) : BufTy := match i / 128 with
  | 0 => hbmTy0_0 i
  | 1 => hbmTy0_1 i
  | _ => ⟨S1x32, .f32⟩

abbrev bufTy : (tb : Table) → Fin (tcTables nBuf tb) → BufTy
  | .hbm, ⟨i, _⟩ => hbmTy i
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_c_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_13 : Ref sig .tc := ⟨.hbm, 74, rfl⟩
abbrev main_v47 : Ref sig .tc := ⟨.hbm, 75, rfl⟩
abbrev main_v48 : Ref sig .tc := ⟨.hbm, 76, rfl⟩
abbrev main_c_14 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst : Ref sig .tc := ⟨.hbm, 87, rfl⟩
abbrev main_v58 : Ref sig .tc := ⟨.hbm, 88, rfl⟩
abbrev main_v59 : Ref sig .tc := ⟨.hbm, 89, rfl⟩
abbrev main_cst_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_16 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_17 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call0_cst : Ref sig .tc := ⟨.hbm, 118, rfl⟩
abbrev main_call0_v0 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call1_cst : Ref sig .tc := ⟨.hbm, 125, rfl⟩
abbrev main_call1_v0 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]
-- ==== Proof.Spec.lean ====
/-
  The mathematics both programs compute, on the extended reals and free of either program's layout.

  `tent d r c k` is the sum of feature `k` over the four grid corners of pixel (r, c); `mean` is a quarter of it.
  `dense` is one rectified layer, `mlp` the three layers applied to the mean. `pixel` puts the two together.

  The rest of the file is the one algebraic fact the tiled program rests on: multiplying a row of 128 lanes by a
  block-diagonal matrix of four 32 by 32 copies is four separate products (`sum_block`), and the quarter may be
  applied to the matrix instead of to the row (`sum_block_quarter`). Neither needs the entries to be finite: zero
  times anything is zero, and a positive finite factor distributes over every sum.
-/
module

public import Mathlib.Data.EReal.Inv
public import Mathlib.Algebra.BigOperators.Fin
public import Mathlib.Logic.Equiv.Fin.Basic
public import Idealize.ShloMosaic.Lib.ValueIdxCore

@[expose] public section

noncomputable section

namespace Cert.Grid

open Idealize.ShloMosaic Idealize.ShloMosaic.ValueIdx

/-- The next grid line, staying on the last one at the border. -/
def nxt (r : Fin 1024) : Fin 1024 := ⟨min (r.val + 1) 1023, by omega⟩

/-- The grid's features, one vector of 32 at each of 1024 by 1024 points. -/
abbrev Feat := (⟨3, ![1024, 1024, 32]⟩ : Shape).Idx → EReal
/-- A layer's weights. -/
abbrev Mat (n m : Nat) := (⟨2, ![n, m]⟩ : Shape).Idx → EReal
/-- A layer's bias. -/
abbrev Bias (n : Nat) := (⟨1, ![n]⟩ : Shape).Idx → EReal

/-- The sum of feature `k` over the four corners of pixel (r, c). -/
def tent (d : Feat) (r c : Fin 1024) (k : Fin 32) : EReal :=
  (d (ix3 r c k) + d (ix3 r (nxt c) k)) + (d (ix3 (nxt r) c k) + d (ix3 (nxt r) (nxt c) k))

/-- One quarter, as an extended real. -/
def quarter : EReal := ((1 / 4 : ℝ) : EReal)

/-- The mean of feature `k` over the four corners of pixel (r, c). -/
def mean (d : Feat) (r c : Fin 1024) (k : Fin 32) : EReal := tent d r c k * quarter

/-- Entry `i` of a rectified layer applied to `x`. -/
def dense (x : Fin 32 → EReal) (W : Mat 32 32) (b : Bias 32) (i : Fin 32) : EReal :=
  max (∑ k : Fin 32, x k * W (ix2 k i) + b (ix1 i)) 0

/-- Two rectified layers and a linear one of width one, applied to `x`. -/
def mlp (x : Fin 32 → EReal) (W1 : Mat 32 32) (b1 : Bias 32) (W2 : Mat 32 32) (b2 : Bias 32) (W3 : Mat 32 1) (b3 : Bias 1) : EReal :=
  ∑ j : Fin 32, dense (dense x W1 b1) W2 b2 j * W3 (ix2 j 0) + b3 (ix1 0)

/-- What pixel (r, c) of the result holds. -/
def pixel (d : Feat) (W1 : Mat 32 32) (b1 : Bias 32) (W2 : Mat 32 32) (b2 : Bias 32) (W3 : Mat 32 1) (b3 : Bias 1)
    (r c : Fin 1024) : EReal :=
  mlp (mean d r c) W1 b1 W2 b2 W3 b3

/-! ## The quarter -/

/-- A quarter is not negative. -/
theorem quarter_nonneg : 0 ≤ quarter := by
  unfold quarter; exact_mod_cast (by norm_num : (0 : ℝ) ≤ 1 / 4)

/-- A quarter is finite. -/
theorem quarter_ne_top : quarter ≠ ⊤ := EReal.coe_ne_top _

/-- A quarter of a sum is the sum of the quarters, whatever the terms. -/
theorem add_mul_quarter (a b : EReal) : (a + b) * quarter = a * quarter + b * quarter :=
  EReal.right_distrib_of_nonneg_of_ne_top quarter_nonneg quarter_ne_top a b

/-- The mean as the sum of the four quartered corners, in the order a bilinear interpolation adds them. -/
theorem mean_eq (d : Feat) (r c : Fin 1024) (k : Fin 32) :
    d (ix3 r c k) * quarter + d (ix3 r (nxt c) k) * quarter + d (ix3 (nxt r) c k) * quarter
      + d (ix3 (nxt r) (nxt c) k) * quarter = mean d r c k := by
  unfold mean tent
  rw [add_mul_quarter, add_mul_quarter, add_mul_quarter, add_assoc]

/-! ## Four copies side by side -/

/-- Lane `k` of segment `s`: four segments of 32 lanes. -/
def lane (s : Fin 4) (k : Fin 32) : Fin 128 := ⟨32 * s.val + k.val, by omega⟩

/-- The segment a lane lies in. -/
def seg (l : Fin 128) : Fin 4 := ⟨l.val / 32, by omega⟩
/-- A lane's place in its segment. -/
def off (l : Fin 128) : Fin 32 := ⟨l.val % 32, by omega⟩

/-- The segment of lane (s, k). -/
theorem seg_lane (s : Fin 4) (k : Fin 32) : seg (lane s k) = s := Fin.ext (by simp only [seg, lane]; omega)
/-- The place of lane (s, k). -/
theorem off_lane (s : Fin 4) (k : Fin 32) : off (lane s k) = k := Fin.ext (by simp only [off, lane]; omega)
/-- A lane is the one its segment and place name. -/
theorem lane_seg_off (l : Fin 128) : lane (seg l) (off l) = l := Fin.ext (by simp only [seg, off, lane]; omega)

/-- The 128 lanes are the pairs of a segment and a place in it. -/
def laneEquiv : Fin 4 × Fin 32 ≃ Fin 128 where
  toFun p := lane p.1 p.2
  invFun l := (seg l, off l)
  left_inv p := by simp only [seg_lane, off_lane]
  right_inv l := lane_seg_off l

/-- A sum over the lanes is a sum over the segments of sums over their places. -/
theorem sum_lane (f : Fin 128 → EReal) : ∑ l, f l = ∑ s : Fin 4, ∑ k : Fin 32, f (lane s k) := by
  rw [← laneEquiv.sum_comp f, Fintype.sum_prod_type]; rfl

/-- The entry of the 4 by 4 identity. -/
def eye (s t : Fin 4) : EReal := if s = t then 1 else 0

/-- A row of lanes against column (s, i) of a block-diagonal matrix is segment `s` of the row against column `i` of the block. -/
theorem sum_block (f : Fin 128 → EReal) (w : Fin 32 → EReal) (s : Fin 4) :
    ∑ l, f l * (eye (seg l) s * w (off l)) = ∑ k : Fin 32, f (lane s k) * w k := by
  rw [sum_lane, Finset.sum_eq_single s]
  · refine Finset.sum_congr rfl fun k _ => ?_
    rw [seg_lane, off_lane, eye, if_pos rfl, one_mul]
  · intro t _ ht
    refine Finset.sum_eq_zero fun k _ => ?_
    rw [seg_lane, off_lane, eye, if_neg ht, zero_mul, mul_zero]
  · exact fun h => absurd (Finset.mem_univ s) h

/-- The same with the quarter applied to the matrix: the row's segment ends up quartered. -/
theorem sum_block_quarter (f : Fin 128 → EReal) (w : Fin 32 → EReal) (s : Fin 4) :
    ∑ l, f l * (quarter * (eye (seg l) s * w (off l))) = ∑ k : Fin 32, f (lane s k) * quarter * w k := by
  rw [← sum_block (fun l => f l * quarter) w s]
  exact Finset.sum_congr rfl fun l _ => (mul_assoc _ _ _).symm

end Cert.Grid

end
-- ==== Proof.Stencil.lean ====
/-
  What a tile's stencil computes: the sum over the four corners of each of its pixels.

  A tile holds 17 grid lines: 16 of its own and the one below. A line is 256 groups of 128 lanes, a group four
  neighbouring columns of 32 features each. The column to the right is 32 lanes further (`shiftLanes_low`), or the
  first segment of the next group (`nextGroup_apply`, `shiftLanes_high`), or, at the grid's border, the column itself:
  `rightOf_apply` puts the three together. `corners_apply` then adds a line's sums to those of the line below.
-/
module

public import proofs.«01_k».proof.Proof.Spec
public import proofs.«01_k».proof.Proof.Gen.KernelIdeal.Skeleton
public import Idealize.ShloMosaic.Lib.Pipeline.Value
public import Idealize.ShloMosaic.Lib.ValueIdx

@[expose] public section

noncomputable section

namespace Cert.KernelIdeal.Pixel

open Idealize.ShloMosaic Idealize.ShloMosaic.ValueIdx
open Cert.KernelIdeal Cert.KernelIdeal.Gen Cert.Grid

/-- The group a column lies in. -/
def grp (c : Fin 1024) : Fin 256 := ⟨c.val / 4, by omega⟩
/-- A column's segment of its group. -/
def sub (c : Fin 1024) : Fin 4 := ⟨c.val % 4, by omega⟩
/-- Column `s` of group `q`. -/
def col (q : Fin 256) (s : Fin 4) : Fin 1024 := ⟨4 * q.val + s.val, by omega⟩

/-- A column's group. -/
theorem grp_col (q : Fin 256) (s : Fin 4) : grp (col q s) = q := Fin.ext (by simp only [grp, col]; omega)
/-- A column's segment. -/
theorem sub_col (q : Fin 256) (s : Fin 4) : sub (col q s) = s := Fin.ext (by simp only [sub, col]; omega)
/-- A column is the one its group and segment name. -/
theorem col_grp_sub (c : Fin 1024) : col (grp c) (sub c) = c := Fin.ext (by simp only [grp, sub, col]; omega)

/-! ## The column to the right -/

/-- Every group replaced by the next one of its line, the last by the first. -/
def nextGroup (X : S17x256x128.Idx → EReal) : S17x256x128.Idx → EReal :=
  concatenate S17x256x128 1
    [⟨S17x255x128, extractStridedSlice S17x255x128 ![0, 1, 0] X slices_S17x256x128_o0_1_0_S17x255x128⟩,
     ⟨S17x1x128, extractStridedSlice S17x1x128 ![0, 0, 0] X slices_S17x256x128_o0_0_0_S17x1x128⟩]
    concatenates_S17x255x128_S17x1x128_S17x256x128_d1

/-- Every lane replaced by the one 32 further in its group, around the end. -/
def shiftLanes (X : S17x256x128.Idx → EReal) : S17x256x128.Idx → EReal :=
  concatenate S17x256x128 2
    [⟨S17x256x96, extractStridedSlice S17x256x96 ![0, 0, 32] X slices_S17x256x128_o0_0_32_S17x256x96⟩,
     ⟨S17x256x32, extractStridedSlice S17x256x32 ![0, 0, 0] X slices_S17x256x128_o0_0_0_S17x256x32⟩]
    concatenates_S17x256x96_S17x256x32_S17x256x128_d2

/-- The value one column to the right, the last column standing for its own right neighbour. -/
def rightOf (X : S17x256x128.Idx → EReal) : S17x256x128.Idx → EReal :=
  select (cmpi .slt (iota .tc S17x256x128 32 [2] iota_S17x256x128_d2_w32) (broadcast S17x256x128 96#32)) (shiftLanes X)
    (select (cmpi .eq (iota .tc S17x256x128 32 [1] iota_S17x256x128_d1_w32) (broadcast S17x256x128 255#32)) X
      (shiftLanes (nextGroup X)))

/-- A group that is not the last is replaced by the next one. -/
theorem nextGroup_apply (X : S17x256x128.Idx → EReal) (p : Fin 17) (q q' : Fin 256) (l : Fin 128) (hq : q'.val = q.val + 1) :
    nextGroup X (ix3 p q l) = X (ix3 p q' l) := by
  have h : q.val < 255 := by omega
  unfold nextGroup
  refine (concatenate_pair_apply_left (t := S17x256x128) (s₁ := S17x255x128) (s₂ := S17x1x128) 1 _ _ _ (ix3 p q l) rfl
    (ix3 p ⟨q.val, h⟩ l) (fun b => by fin_cases b <;> rfl)).trans ?_
  refine extractStridedSlice_apply _ _ _ _ (ix3 p q' l) fun a => ?_
  fin_cases a
  · show p.val = 0 + p.val; omega
  · show q'.val = 1 + q.val; omega
  · show l.val = 0 + l.val; omega

/-- One of the first 96 lanes is replaced by the lane 32 further. -/
theorem shiftLanes_low (X : S17x256x128.Idx → EReal) (p : Fin 17) (q : Fin 256) (l l' : Fin 128) (hl : l'.val = l.val + 32) :
    shiftLanes X (ix3 p q l) = X (ix3 p q l') := by
  have h : l.val < 96 := by omega
  unfold shiftLanes
  refine (concatenate_pair_apply_left (t := S17x256x128) (s₁ := S17x256x96) (s₂ := S17x256x32) 2 _ _ _ (ix3 p q l) rfl
    (ix3 p q ⟨l.val, h⟩) (fun b => by fin_cases b <;> rfl)).trans ?_
  refine extractStridedSlice_apply _ _ _ _ (ix3 p q l') fun a => ?_
  fin_cases a
  · show p.val = 0 + p.val; omega
  · show q.val = 0 + q.val; omega
  · show l'.val = 32 + l.val; omega

/-- One of the last 32 lanes is replaced by the lane of the same place in the first segment. -/
theorem shiftLanes_high (X : S17x256x128.Idx → EReal) (p : Fin 17) (q : Fin 256) (l l' : Fin 128) (hl : l'.val + 96 = l.val) :
    shiftLanes X (ix3 p q l) = X (ix3 p q l') := by
  have h : l'.val < 32 := by omega
  unfold shiftLanes
  refine (concatenate_pair_apply_right (t := S17x256x128) (s₁ := S17x256x96) (s₂ := S17x256x32) 2 _ _ _ (ix3 p q l) rfl rfl
    (ix3 p q ⟨l'.val, h⟩) (fun b hb => by fin_cases b <;> first | rfl | exact absurd rfl hb) hl).trans ?_
  refine extractStridedSlice_apply _ _ _ _ (ix3 p q l') fun a => ?_
  fin_cases a
  · show p.val = 0 + p.val; omega
  · show q.val = 0 + q.val; omega
  · show l'.val = 0 + l'.val; omega

/-- The lane test's word. -/
theorem lane_test : ∀ l : Fin 128, IntOp.cmpi .slt (BitVec.ofNat 32 l.val) 96#32 = if l.val < 96 then 1#1 else 0#1 := by
  decide +kernel
/-- The group test's word. -/
theorem group_test : ∀ q : Fin 256, IntOp.cmpi .eq (BitVec.ofNat 32 q.val) 255#32 = if q.val = 255 then 1#1 else 0#1 := by
  decide +kernel

/-- The choice between the three cases. -/
theorem rightOf_cases (X : S17x256x128.Idx → EReal) (p : Fin 17) (q : Fin 256) (l : Fin 128) :
    rightOf X (ix3 p q l) = if l.val < 96 then shiftLanes X (ix3 p q l)
      else if q.val = 255 then X (ix3 p q l) else shiftLanes (nextGroup X) (ix3 p q l) := by
  unfold rightOf
  rw [select_apply, select_apply]
  show Scalar.select (IntOp.cmpi .slt (iota .tc S17x256x128 32 [2] _ _) 96#32) _
    (Scalar.select (IntOp.cmpi .eq (iota .tc S17x256x128 32 [1] _ _) 255#32) _ _) = _
  rw [iota_single_apply, iota_single_apply]
  show Scalar.select (IntOp.cmpi .slt (BitVec.ofNat 32 l.val) 96#32) _
    (Scalar.select (IntOp.cmpi .eq (BitVec.ofNat 32 q.val) 255#32) _ _) = _
  rw [lane_test, group_test]
  unfold Scalar.select
  by_cases h₁ : l.val < 96
  · rw [if_pos h₁, if_pos (show (1#1 : BitVec 1) = 1 from rfl), if_pos h₁]
  · rw [if_neg h₁, if_neg (by decide), if_neg h₁]
    by_cases h₂ : q.val = 255
    · rw [if_pos h₂, if_pos (show (1#1 : BitVec 1) = 1 from rfl), if_pos h₂]
    · rw [if_neg h₂, if_neg (by decide), if_neg h₂]

/-- `rightOf` at a column reads the next column. -/
theorem rightOf_apply (X : S17x256x128.Idx → EReal) (p : Fin 17) (c : Fin 1024) (k : Fin 32) :
    rightOf X (ix3 p (grp c) (lane (sub c) k)) = X (ix3 p (grp (nxt c)) (lane (sub (nxt c)) k)) := by
  rw [rightOf_cases]
  have hl : (lane (sub c) k).val = 32 * (c.val % 4) + k.val := rfl
  have hq : (grp c).val = c.val / 4 := rfl
  have hl' : (lane (sub (nxt c)) k).val = 32 * (min (c.val + 1) 1023 % 4) + k.val := rfl
  have hq' : (grp (nxt c)).val = min (c.val + 1) 1023 / 4 := rfl
  by_cases h₁ : c.val % 4 < 3
  · rw [if_pos (by omega), shiftLanes_low X p (grp c) _ (lane (sub (nxt c)) k) (by omega)]
    rw [show grp (nxt c) = grp c from Fin.ext (by omega)]
  · rw [if_neg (by omega)]
    by_cases h₂ : c.val / 4 = 255
    · rw [if_pos (by omega), show nxt c = c from Fin.ext (by show min (c.val + 1) 1023 = c.val; omega)]
    · rw [if_neg (by omega), shiftLanes_high _ p (grp c) _ (lane (sub (nxt c)) k) (by omega),
        nextGroup_apply X p (grp c) (grp (nxt c)) _ (by omega)]

/-! ## The line below -/

/-- A tile's own 16 lines with the one below. -/
def stack (A : S16x256x128.Idx → EReal) (B : S1x256x128.Idx → EReal) : S17x256x128.Idx → EReal :=
  concatenate S17x256x128 0 [⟨S16x256x128, shapeCast S16x256x128 A shapeCasts_S16x256x128_S16x256x128⟩,
    ⟨S1x256x128, shapeCast S1x256x128 B shapeCasts_S1x256x128_S1x256x128⟩] concatenates_S16x256x128_S1x256x128_S17x256x128_d0

/-- The first 16 lines of a stack are the tile's own. -/
theorem stack_own (A : S16x256x128.Idx → EReal) (B : S1x256x128.Idx → EReal) (p : Fin 16) (q : Fin 256) (l : Fin 128) :
    stack A B (ix3 ⟨p.val, by omega⟩ q l) = A (ix3 p q l) := by
  unfold stack
  refine (concatenate_pair_apply_left (t := S17x256x128) (s₁ := S16x256x128) (s₂ := S1x256x128) 0 _ _ _ _ rfl
    (ix3 p q l) (fun b => by fin_cases b <;> rfl)).trans ?_
  rw [shapeCast_self]

/-- The last line of a stack is the one below. -/
theorem stack_below (A : S16x256x128.Idx → EReal) (B : S1x256x128.Idx → EReal) (q : Fin 256) (l : Fin 128) :
    stack A B (ix3 ⟨16, by omega⟩ q l) = B (ix3 0 q l) := by
  unfold stack
  refine (concatenate_pair_apply_right (t := S17x256x128) (s₁ := S16x256x128) (s₂ := S1x256x128) 0 _ _ _ _ rfl rfl
    (ix3 0 q l) (fun b hb => by fin_cases b <;> first | rfl | exact absurd rfl hb) rfl).trans ?_
  rw [shapeCast_self]

/-- The tile's sums: a line's sums over neighbouring columns added to those of the line below. -/
def corners (X : S17x256x128.Idx → EReal) : S16x256x128.Idx → EReal :=
  addf (F := Ideal) (φ := .f32)
    (extractStridedSlice S16x256x128 ![0, 0, 0] (addf (F := Ideal) (φ := .f32) X (rightOf X)) slices_S17x256x128_o0_0_0_S16x256x128)
    (extractStridedSlice S16x256x128 ![1, 0, 0] (addf (F := Ideal) (φ := .f32) X (rightOf X)) slices_S17x256x128_o1_0_0_S16x256x128)

/-- The tile's sums at (p, q, l). -/
theorem corners_read (X : S17x256x128.Idx → EReal) (p : Fin 16) (q : Fin 256) (l : Fin 128) :
    corners X (ix3 p q l) = (X (ix3 ⟨p.val, by omega⟩ q l) + rightOf X (ix3 ⟨p.val, by omega⟩ q l))
      + (X (ix3 ⟨p.val + 1, by omega⟩ q l) + rightOf X (ix3 ⟨p.val + 1, by omega⟩ q l)) := by
  unfold corners
  rw [addf_apply]
  congr 1
  · refine (extractStridedSlice_apply _ _ _ _ (ix3 ⟨p.val, by omega⟩ q l) fun a => ?_).trans rfl
    fin_cases a
    · show p.val = 0 + p.val; omega
    · show q.val = 0 + q.val; omega
    · show l.val = 0 + l.val; omega
  · refine (extractStridedSlice_apply _ _ _ _ (ix3 ⟨p.val + 1, by omega⟩ q l) fun a => ?_).trans rfl
    fin_cases a
    · show p.val + 1 = 1 + p.val; omega
    · show q.val = 0 + q.val; omega
    · show l.val = 0 + l.val; omega

/-- Line `p` of tile `g`. -/
def line (g : Fin 64) (p : Fin 16) : Fin 1024 := ⟨16 * g.val + p.val, by omega⟩

/-- A tile whose own lines are lines 16 g … 16 g + 15 of the grid, and whose line below is the one after them (the last
    one again at the border), sums the four corners of each of its pixels. -/
theorem corners_apply (d : Feat) (g : Fin 64) (A : S16x256x128.Idx → EReal) (B : S1x256x128.Idx → EReal)
    (hA : ∀ p c k, A (ix3 p (grp c) (lane (sub c) k)) = d (ix3 (line g p) c k))
    (hB : ∀ c k, B (ix3 0 (grp c) (lane (sub c) k)) = d (ix3 (nxt (line g 15)) c k))
    (p : Fin 16) (c : Fin 1024) (k : Fin 32) :
    corners (stack A B) (ix3 p (grp c) (lane (sub c) k)) = tent d (line g p) c k := by
  have own : ∀ c, stack A B (ix3 ⟨p.val, by omega⟩ (grp c) (lane (sub c) k)) = d (ix3 (line g p) c k) := fun c => by
    rw [stack_own, hA]
  have below : ∀ c, stack A B (ix3 ⟨p.val + 1, by omega⟩ (grp c) (lane (sub c) k)) = d (ix3 (nxt (line g p)) c k) := fun c => by
    have hg := g.isLt
    have hp := p.isLt
    rcases Nat.lt_or_ge (p.val + 1) 16 with h | h
    · rw [show nxt (line g p) = line g ⟨p.val + 1, h⟩ from
        Fin.ext (by show min (16 * g.val + p.val + 1) 1023 = 16 * g.val + (p.val + 1); omega), ← hA]
      exact stack_own A B ⟨p.val + 1, h⟩ _ _
    · have e : p = 15 := Fin.ext (by show p.val = 15; omega)
      subst e
      rw [← hB]
      exact stack_below A B _ _
  rw [corners_read, rightOf_apply, rightOf_apply, own, own, below, below]
  rfl

end Cert.KernelIdeal.Pixel

end
-- ==== Proof.Host.lean ====
/-
  What the launched kernel's inputs hold when its grid starts, entry by entry in the program's arguments.

  The host lays the grid's features out in lanes (`feat_apply`), and builds from each layer's weights four copies down
  the diagonal of a matrix (`kron_apply`, `kron4_apply`, with the 4 by 4 identity of `ident_apply`), the first layer's
  scaled by a quarter (`w1_apply`). Each bias is repeated four times in a row.
-/
module

public import proofs.«01_k».proof.Proof.Stencil
public import proofs.«01_k».proof.Proof.Gen.KernelIdeal.Frame

@[expose] public section

noncomputable section

namespace Cert.KernelIdeal.Pixel

open Idealize.ShloMosaic Idealize.ShloMosaic.TcCoe Idealize.ShloMosaic.ValueIdx
open Cert.KernelIdeal Cert.KernelIdeal.Gen Cert.Grid

/-! ## The host's functions, read at an index -/

/-- The 4 by 4 identity as the host builds it. -/
def ident : S4x4.Idx → EReal :=
  uitofp (F := Ideal) .f32 (cmpi .eq (addi (iotaInDim S4x4 32 0) (broadcastInDim S4x4 ![] bcast_S_S4x4 (constantI S_ 32 0#32))) (iotaInDim S4x4 32 1))

/-- Four copies of a square matrix down the diagonal. -/
def kron (E : S4x4.Idx → EReal) (W : S32x32.Idx → EReal) : S128x128.Idx → EReal :=
  shapeCast S128x128
    (mulf (F := Ideal) (φ := .f32)
      (broadcastInDim S4x32x4x32 ![0, 1, 2, 3] bcast_S4x1x4x1_S4x32x4x32_0_1_2_3 (broadcastInDim S4x1x4x1 ![0, 2] bcast_S4x4_S4x1x4x1_0_2 E))
      (broadcastInDim S4x32x4x32 ![0, 1, 2, 3] bcast_S1x32x1x32_S4x32x4x32_0_1_2_3 (broadcastInDim S1x32x1x32 ![1, 3] bcast_S32x32_S1x32x1x32_1_3 W)))
    shapeCasts_S4x32x4x32_S128x128

/-- Four copies of a column down the diagonal. -/
def kron4 (E : S4x4.Idx → EReal) (W : S32x1.Idx → EReal) : S128x4.Idx → EReal :=
  shapeCast S128x4
    (mulf (F := Ideal) (φ := .f32)
      (broadcastInDim S4x32x4x1 ![0, 1, 2, 3] bcast_S4x1x4x1_S4x32x4x1_0_1_2_3 (broadcastInDim S4x1x4x1 ![0, 2] bcast_S4x4_S4x1x4x1_0_2 E))
      (broadcastInDim S4x32x4x1 ![0, 1, 2, 3] bcast_S1x32x1x1_S4x32x4x1_0_1_2_3 (broadcastInDim S1x32x1x1 ![1, 3] bcast_S32x1_S1x32x1x1_1_3 W)))
    shapeCasts_S4x32x4x1_S128x4

/-- A bias repeated four times in a row. -/
def tile (b : S32.Idx → EReal) : S1x128.Idx → EReal :=
  shapeCast S1x128 (shapeCast S128 (broadcastInDim S4x32 ![0, 1] bcast_S1x32_S4x32_0_1 (shapeCast S1x32 b shapeCasts_S32_S1x32))
    shapeCasts_S4x32_S128) shapeCasts_S128_S1x128

/-- The last bias repeated four times in a row. -/
def tile4 (b : S1.Idx → EReal) : S1x4.Idx → EReal :=
  shapeCast S1x4 (shapeCast S4 (broadcastInDim S4x1 ![0, 1] bcast_S1x1_S4x1_0_1 (shapeCast S1x1 b shapeCasts_S1_S1x1))
    shapeCasts_S4x1_S4) shapeCasts_S4_S1x4

/-- The comparison of two coordinates, as a number. -/
theorem eq_word : ∀ s t : Fin 4, IntOp.cmpi .eq (IntOp.addi (BitVec.ofNat 32 s.val) 0#32) (BitVec.ofNat 32 t.val)
    = if s = t then 1#1 else 0#1 := by decide +kernel

/-- The host's identity at (s, t). -/
theorem ident_apply (s t : Fin 4) : ident (ix2 s t) = eye s t := by
  show ((((IntOp.cmpi .eq (IntOp.addi (BitVec.ofNat 32 s.val) 0#32) (BitVec.ofNat 32 t.val)).toNat : ℝ)) : EReal) = _
  rw [eq_word, eye]
  split <;> simp

/-- The four copies at (l, m): the weights' entry if both lanes lie in one segment, zero otherwise. -/
theorem kron_apply (W : S32x32.Idx → EReal) (l m : Fin 128) :
    kron ident W (ix2 l m) = eye (seg l) (seg m) * W (ix2 (off l) (off m)) := by
  unfold kron
  refine (shapeCast_apply _ _ _ (ix4 (seg l) (off l) (seg m) (off m)) ?_).trans ?_
  · rw [Shape.rowMajor_val_four, Shape.rowMajor_val_two]
    show ((l.val / 32 * 32 + l.val % 32) * 4 + m.val / 32) * 32 + m.val % 32 = l.val * 128 + m.val
    omega
  rw [mulf_apply]
  congr 1
  · refine (broadcastInDim_apply _ _ _ _ (ix4 (seg l) 0 (seg m) 0) fun a => ?_).trans
      ((broadcastInDim_apply _ _ _ _ (ix2 (seg l) (seg m)) fun a => ?_).trans (ident_apply _ _))
    · fin_cases a <;> rfl
    · fin_cases a <;> rfl
  · refine (broadcastInDim_apply _ _ _ _ (ix4 0 (off l) 0 (off m)) fun a => ?_).trans
      (broadcastInDim_apply _ _ _ _ (ix2 (off l) (off m)) fun a => ?_)
    · fin_cases a <;> rfl
    · fin_cases a <;> rfl

/-- The same for the column. -/
theorem kron4_apply (W : S32x1.Idx → EReal) (l : Fin 128) (s : Fin 4) :
    kron4 ident W (ix2 l s) = eye (seg l) s * W (ix2 (off l) 0) := by
  unfold kron4
  refine (shapeCast_apply _ _ _ (ix4 (seg l) (off l) s 0) ?_).trans ?_
  · rw [Shape.rowMajor_val_four, Shape.rowMajor_val_two]
    show ((l.val / 32 * 32 + l.val % 32) * 4 + s.val) * 1 + 0 = l.val * 4 + s.val
    omega
  rw [mulf_apply]
  congr 1
  · refine (broadcastInDim_apply _ _ _ _ (ix4 (seg l) 0 s 0) fun a => ?_).trans
      ((broadcastInDim_apply _ _ _ _ (ix2 (seg l) s) fun a => ?_).trans (ident_apply _ _))
    · fin_cases a <;> rfl
    · fin_cases a <;> rfl
  · refine (broadcastInDim_apply _ _ _ _ (ix4 0 (off l) 0 0) fun a => ?_).trans
      (broadcastInDim_apply _ _ _ _ (ix2 (off l) 0) fun a => ?_)
    · fin_cases a <;> rfl
    · fin_cases a <;> rfl

/-- The repeated bias at lane `l`. -/
theorem tile_bias_apply (b : S32.Idx → EReal) (l : Fin 128) : tile b (ix2 0 l) = b (ix1 (off l)) := by
  unfold tile
  refine (shapeCast_apply _ _ _ (ix1 l) ?_).trans ((shapeCast_apply _ _ _ (ix2 (seg l) (off l)) ?_).trans
    ((broadcastInDim_apply _ _ _ _ (ix2 0 (off l)) fun a => ?_).trans (shapeCast_apply _ _ _ (ix1 (off l)) ?_)))
  · rw [Shape.rowMajor_val_one, Shape.rowMajor_val_two]
    show l.val = 0 * 128 + l.val
    omega
  · rw [Shape.rowMajor_val_one, Shape.rowMajor_val_two]
    show l.val / 32 * 32 + l.val % 32 = l.val
    omega
  · fin_cases a <;> rfl
  · rw [Shape.rowMajor_val_one, Shape.rowMajor_val_two]
    show l.val % 32 = 0 * 32 + l.val % 32
    omega

/-- The repeated last bias. -/
theorem tile4_apply (b : S1.Idx → EReal) (s : Fin 4) : tile4 b (ix2 0 s) = b (ix1 0) := by
  unfold tile4
  refine (shapeCast_apply _ _ _ (ix1 s) ?_).trans ((shapeCast_apply _ _ _ (ix2 s 0) ?_).trans
    ((broadcastInDim_apply _ _ _ _ (ix2 0 0) fun a => ?_).trans (shapeCast_apply _ _ _ (ix1 0) ?_)))
  · rw [Shape.rowMajor_val_one, Shape.rowMajor_val_two]
    show s.val = 0 * 4 + s.val
    omega
  · rw [Shape.rowMajor_val_one, Shape.rowMajor_val_two]
    show s.val * 1 + 0 = s.val
    omega
  · fin_cases a <;> rfl
  · rw [Shape.rowMajor_val_one, Shape.rowMajor_val_two]
    rfl

/-- The word of one quarter. -/
theorem quarter_word : Ideal.ofBits .f32 0x3E800000#32 = quarter := by
  unfold quarter
  simp [Ideal.ofBits, Ideal.ieee, -EReal.coe_mul]
  norm_num

/-- The features laid out in lanes. -/
theorem lanes_apply (d : S1024x1024x32.Idx → EReal) (r c : Fin 1024) (k : Fin 32) :
    shapeCast S1024x256x128 d shapeCasts_S1024x1024x32_S1024x256x128 (ix3 r (grp c) (lane (sub c) k)) = d (ix3 r c k) := by
  refine shapeCast_apply _ _ _ (ix3 r c k) ?_
  rw [Shape.rowMajor_val_three, Shape.rowMajor_val_three]
  show (r.val * 1024 + c.val) * 32 + k.val = (r.val * 256 + c.val / 4) * 128 + (32 * (c.val % 4) + k.val)
  omega

/-! ## The arrays the grid starts from -/

section Arrays

variable (m : (ℓ : Loc nD τ sig) → Buf (Elt Ideal) ℓ) (c : Dev nD)

/-- The features in lanes. -/
theorem V_v0 : V m c main_v0 = shapeCast S1024x256x128 (m ((c : Thread nD τ).loc main_arg1)) shapeCasts_S1024x1024x32_S1024x256x128 := by
  unfold V V0
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, StableHlo.TRef.reshape, cast_eq]
  after_results_simp <;> rfl

/-- The first matrix: a quarter of the weights' four copies. -/
theorem V_v9 : V m c main_v9 = mulf (F := Ideal) (φ := .f32)
    (broadcastInDim S128x128 ![] bcast_S_S128x128 (constant S_ .f32 0x3E800000#32)) (kron ident (m ((c : Thread nD τ).loc main_arg2))) := by
  unfold V V0
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, StableHlo.TRef.reshape, cast_eq]
  after_results_simp <;> rfl

/-- The first bias. -/
theorem V_v13 : V m c main_v13 = tile (m ((c : Thread nD τ).loc main_arg3)) := by
  unfold V V0
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, StableHlo.TRef.reshape, cast_eq]
  after_results_simp <;> rfl

/-- The second matrix. -/
theorem V_v14 : V m c main_v14 = kron ident (m ((c : Thread nD τ).loc main_arg4)) := by
  unfold V V0
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, StableHlo.TRef.reshape, cast_eq]
  after_results_simp <;> rfl

/-- The second bias. -/
theorem V_v18 : V m c main_v18 = tile (m ((c : Thread nD τ).loc main_arg5)) := by
  unfold V V0
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, StableHlo.TRef.reshape, cast_eq]
  after_results_simp <;> rfl

/-- The third matrix. -/
theorem V_v19 : V m c main_v19 = kron4 ident (m ((c : Thread nD τ).loc main_arg6)) := by
  unfold V V0
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, StableHlo.TRef.reshape, cast_eq]
  after_results_simp <;> rfl

/-- The third bias. -/
theorem V_v23 : V m c main_v23 = tile4 (m ((c : Thread nD τ).loc main_arg7)) := by
  unfold V V0
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, StableHlo.TRef.reshape, cast_eq]
  after_results_simp <;> rfl

/-- The features' array at line `r`, column `x`, feature `k`. -/
theorem feat_apply (r x : Fin 1024) (k : Fin 32) :
    (V m c main_v0 : S1024x256x128.Idx → EReal) (ix3 r (grp x) (lane (sub x) k)) = (m ((c : Thread nD τ).loc main_arg1) : Feat) (ix3 r x k) := by
  rw [V_v0]; exact lanes_apply _ r x k

/-- The first matrix at (l, n). -/
theorem w1_apply (l n : Fin 128) : (V m c main_v9 : S128x128.Idx → EReal) (ix2 l n)
    = quarter * (eye (seg l) (seg n) * (m ((c : Thread nD τ).loc main_arg2) : Mat 32 32) (ix2 (off l) (off n))) := by
  rw [V_v9, mulf_apply, kron_apply]
  exact congrArg (· * _) quarter_word

/-- The first bias at lane `l`. -/
theorem b1_apply (l : Fin 128) :
    (V m c main_v13 : S1x128.Idx → EReal) (ix2 0 l) = (m ((c : Thread nD τ).loc main_arg3) : Bias 32) (ix1 (off l)) := by
  rw [V_v13]; exact tile_bias_apply _ l

/-- The second matrix at (l, n). -/
theorem w2_apply (l n : Fin 128) : (V m c main_v14 : S128x128.Idx → EReal) (ix2 l n)
    = eye (seg l) (seg n) * (m ((c : Thread nD τ).loc main_arg4) : Mat 32 32) (ix2 (off l) (off n)) := by
  rw [V_v14]; exact kron_apply _ l n

/-- The second bias at lane `l`. -/
theorem b2_apply (l : Fin 128) :
    (V m c main_v18 : S1x128.Idx → EReal) (ix2 0 l) = (m ((c : Thread nD τ).loc main_arg5) : Bias 32) (ix1 (off l)) := by
  rw [V_v18]; exact tile_bias_apply _ l

/-- The third matrix at (l, s). -/
theorem w3_apply (l : Fin 128) (s : Fin 4) : (V m c main_v19 : S128x4.Idx → EReal) (ix2 l s)
    = eye (seg l) s * (m ((c : Thread nD τ).loc main_arg6) : Mat 32 1) (ix2 (off l) 0) := by
  rw [V_v19]; exact kron4_apply _ l s

/-- The third bias at segment `s`. -/
theorem b3_apply (s : Fin 4) :
    (V m c main_v23 : S1x4.Idx → EReal) (ix2 0 s) = (m ((c : Thread nD τ).loc main_arg7) : Bias 1) (ix1 0) := by
  rw [V_v23]; exact tile4_apply _ s

end Arrays

end Cert.KernelIdeal.Pixel

end
-- ==== Proof.Tile.lean ====
/-
  What one tile of the result holds: at (p, q, s), the pixel at line `p` of the tile and column `s` of group `q`.

  `dot128_apply` and `dot4_apply` read a 4096-row product at a row and a lane. `pay2_read` and `pay1_read` read the
  tile's two halves as sums over lanes. `tile_apply` puts in the block-diagonal matrices and collapses those sums to
  sums over 32 features.
-/
module

public import proofs.«01_k».proof.Proof.Stencil
public import Idealize.ShloMosaic.Lib.MatmulPlain

@[expose] public section

noncomputable section

namespace Cert.KernelIdeal.Pixel

open Idealize.ShloMosaic Idealize.ShloMosaic.ValueIdx
open Cert.KernelIdeal Cert.KernelIdeal.Gen Cert.Grid

/-- A tile's pixels in a row: line `p`, group `q`. -/
def row (p : Fin 16) (q : Fin 256) : Fin 4096 := ⟨256 * p.val + q.val, by omega⟩

/-- The word 0 is zero. -/
theorem zero_word : Ideal.ofBits .f32 0x00000000#32 = 0 := Ideal.ofBits_zero_f32

/-- A product with a 128-lane matrix. -/
theorem dot128_apply (a : S4096x128.Idx → EReal) (b : S128x128.Idx → EReal) (r : Fin 4096) (l : Fin 128) :
    FloatOps.matmul (F := Ideal) (φ₁ := .f32) (φ₂ := .f32) dot_S4096x128_S128x128_S4096x128_1_0_0_1_n_n none a b
      (constant S4096x128 .f32 0x00000000#32) (ix2 r l) = ∑ j : Fin 128, a (ix2 r j) * b (ix2 j l) := by
  refine (Ideal.matmul_plain_apply (φ₁ := .f32) (φ₂ := .f32) none a b _ r l).trans ?_
  show Ideal.ofBits .f32 0x00000000#32 + _ = _
  rw [zero_word, zero_add]

/-- A product with the matrix of the four results. -/
theorem dot4_apply (a : S4096x128.Idx → EReal) (b : S128x4.Idx → EReal) (r : Fin 4096) (s : Fin 4) :
    FloatOps.matmul (F := Ideal) (φ₁ := .f32) (φ₂ := .f32) dot_S4096x128_S128x4_S4096x4_1_0_0_1_n_n none a b
      (constant S4096x4 .f32 0x00000000#32) (ix2 r s) = ∑ j : Fin 128, a (ix2 r j) * b (ix2 j s) := by
  refine (Ideal.matmul_plain_apply (φ₁ := .f32) (φ₂ := .f32) none a b _ r s).trans ?_
  show Ideal.ofBits .f32 0x00000000#32 + _ = _
  rw [zero_word, zero_add]

/-- A bias row spread over all rows. -/
theorem bias128_apply (b : S1x128.Idx → EReal) (r : Fin 4096) (l : Fin 128) :
    broadcastTo S4096x128 (shapeCast S1x128 b shapeCasts_S1x128_S1x128) broadcasts_S1x128_S4096x128 (ix2 r l) = b (ix2 0 l) := by
  rw [shapeCast_self]
  refine broadcastTo_apply _ _ _ (ix2 0 l) fun a => ?_
  fin_cases a <;> rfl

/-- The last bias spread over all rows. -/
theorem bias4_apply (b : S1x4.Idx → EReal) (r : Fin 4096) (s : Fin 4) :
    broadcastTo S4096x4 (shapeCast S1x4 b shapeCasts_S1x4_S1x4) broadcasts_S1x4_S4096x4 (ix2 r s) = b (ix2 0 s) := by
  rw [shapeCast_self]
  refine broadcastTo_apply _ _ _ (ix2 0 s) fun a => ?_
  fin_cases a <;> rfl

/-- The tile's sums laid out a pixel group to a row. -/
theorem rows_apply (Y : S16x256x128.Idx → EReal) (p : Fin 16) (q : Fin 256) (l : Fin 128) :
    shapeCast S4096x128 Y shapeCasts_S16x256x128_S4096x128 (ix2 (row p q) l) = Y (ix3 p q l) := by
  refine shapeCast_apply _ _ _ (ix3 p q l) ?_
  rw [Shape.rowMajor_val_three, Shape.rowMajor_val_two]
  show (p.val * 256 + q.val) * 128 + l.val = (256 * p.val + q.val) * 128 + l.val
  omega

/-- The first layer's rows, the bias added and the negative part dropped, against the second matrix. -/
def twoLayers (Y : S16x256x128.Idx → EReal) (M1 : S128x128.Idx → EReal) (c1 : S1x128.Idx → EReal) (M2 : S128x128.Idx → EReal) :
    S4096x128.Idx → EReal :=
  FloatOps.matmul (F := Ideal) (φ₁ := .f32) (φ₂ := .f32) dot_S4096x128_S128x128_S4096x128_1_0_0_1_n_n none
    (maximumf (F := Ideal) (φ := .f32)
      (addf (F := Ideal) (φ := .f32)
        (FloatOps.matmul (F := Ideal) (φ₁ := .f32) (φ₂ := .f32) dot_S4096x128_S128x128_S4096x128_1_0_0_1_n_n none
          (shapeCast S4096x128 Y shapeCasts_S16x256x128_S4096x128) (shapeCast S128x128 M1 shapeCasts_S128x128_S128x128)
          (constant S4096x128 .f32 0x00000000#32))
        (broadcastTo S4096x128 (shapeCast S1x128 c1 shapeCasts_S1x128_S1x128) broadcasts_S1x128_S4096x128))
      (broadcast S4096x128 (Scalar.ofBits (F := Ideal) .f32 0x00000000#32)))
    (shapeCast S128x128 M2 shapeCasts_S128x128_S128x128) (constant S4096x128 .f32 0x00000000#32)

/-- The tile's first half is the two products over the tile's sums. -/
theorem pay2_eq (A : S16x256x128.Idx → EReal) (B : S1x256x128.Idx → EReal) (M1 : S128x128.Idx → EReal) (c1 : S1x128.Idx → EReal)
    (M2 : S128x128.Idx → EReal) : k0_pay2 (F := Ideal) A B M1 c1 M2 = twoLayers (corners (stack A B)) M1 c1 M2 := rfl

/-- The two products, read at a row and a lane. -/
theorem twoLayers_read (Y : S16x256x128.Idx → EReal) (M1 : S128x128.Idx → EReal) (c1 : S1x128.Idx → EReal)
    (M2 : S128x128.Idx → EReal) (p : Fin 16) (q : Fin 256) (l : Fin 128) :
    twoLayers Y M1 c1 M2 (ix2 (row p q) l)
      = ∑ j : Fin 128, max (∑ i : Fin 128, Y (ix3 p q i) * M1 (ix2 i j) + c1 (ix2 0 j)) 0 * M2 (ix2 j l) := by
  unfold twoLayers
  refine (dot128_apply _ _ _ _).trans (Finset.sum_congr rfl fun j _ => ?_)
  rw [maximumf_apply, addf_apply, bias128_apply, dot128_apply, shapeCast_self, shapeCast_self]
  show max _ (Ideal.ofBits .f32 0x00000000#32) * _ = _
  rw [zero_word]
  simp only [rows_apply]

/-- The tile's first half, read. -/
theorem pay2_read (A : S16x256x128.Idx → EReal) (B : S1x256x128.Idx → EReal) (M1 : S128x128.Idx → EReal) (c1 : S1x128.Idx → EReal)
    (M2 : S128x128.Idx → EReal) (p : Fin 16) (q : Fin 256) (l : Fin 128) :
    k0_pay2 (F := Ideal) A B M1 c1 M2 (ix2 (row p q) l)
      = ∑ j : Fin 128, max (∑ i : Fin 128, corners (stack A B) (ix3 p q i) * M1 (ix2 i j) + c1 (ix2 0 j)) 0 * M2 (ix2 j l) := by
  rw [pay2_eq, twoLayers_read]

/-- The second layer's rows, the bias added and the negative part dropped, against the third matrix, and its bias added. -/
theorem pay1_read (Z : S4096x128.Idx → EReal) (c2 : S1x128.Idx → EReal) (M3 : S128x4.Idx → EReal) (c3 : S1x4.Idx → EReal)
    (p : Fin 16) (q : Fin 256) (s : Fin 4) :
    k0_pay1 (F := Ideal) Z c2 M3 c3 (ix3 p q s)
      = ∑ j : Fin 128, max (Z (ix2 (row p q) j) + c2 (ix2 0 j)) 0 * M3 (ix2 j s) + c3 (ix2 0 s) := by
  unfold k0_pay1
  refine (shapeCast_apply _ _ _ (ix2 (row p q) s) ?_).trans ?_
  · rw [Shape.rowMajor_val_three, Shape.rowMajor_val_two]
    show (256 * p.val + q.val) * 4 + s.val = (p.val * 256 + q.val) * 4 + s.val
    omega
  rw [addf_apply, bias4_apply]
  refine congrArg (fun x : EReal => x + _) ((dot4_apply _ _ _ _).trans (Finset.sum_congr rfl fun j _ => ?_))
  rw [maximumf_apply, addf_apply, bias128_apply, shapeCast_self]
  show max _ (Ideal.ofBits .f32 0x00000000#32) * _ = _
  rw [zero_word]

/-- A tile's result at (p, q, s): the pixel at line `p` of tile `g` and column `s` of group `q`, given what the tile's inputs hold. -/
theorem tile_apply (d : Feat) (W1 : Mat 32 32) (b1 : Bias 32) (W2 : Mat 32 32) (b2 : Bias 32) (W3 : Mat 32 1) (b3 : Bias 1) (g : Fin 64)
    (A : S16x256x128.Idx → EReal) (B : S1x256x128.Idx → EReal) (M1 : S128x128.Idx → EReal) (c1 : S1x128.Idx → EReal)
    (M2 : S128x128.Idx → EReal) (c2 : S1x128.Idx → EReal) (M3 : S128x4.Idx → EReal) (c3 : S1x4.Idx → EReal)
    (hA : ∀ p c k, A (ix3 p (grp c) (lane (sub c) k)) = d (ix3 (line g p) c k))
    (hB : ∀ c k, B (ix3 0 (grp c) (lane (sub c) k)) = d (ix3 (nxt (line g 15)) c k))
    (hM1 : ∀ l m, M1 (ix2 l m) = quarter * (eye (seg l) (seg m) * W1 (ix2 (off l) (off m))))
    (hc1 : ∀ l, c1 (ix2 0 l) = b1 (ix1 (off l)))
    (hM2 : ∀ l m, M2 (ix2 l m) = eye (seg l) (seg m) * W2 (ix2 (off l) (off m)))
    (hc2 : ∀ l, c2 (ix2 0 l) = b2 (ix1 (off l)))
    (hM3 : ∀ l s, M3 (ix2 l s) = eye (seg l) s * W3 (ix2 (off l) 0))
    (hc3 : ∀ s, c3 (ix2 0 s) = b3 (ix1 0)) (p : Fin 16) (q : Fin 256) (s : Fin 4) :
    k0_pay1 (F := Ideal) (k0_pay2 (F := Ideal) A B M1 c1 M2) c2 M3 c3 (ix3 p q s)
      = pixel d W1 b1 W2 b2 W3 b3 (line g p) (col q s) := by
  -- the first layer at lane (s, i)
  have h1 : ∀ i : Fin 32, max (∑ l : Fin 128, corners (stack A B) (ix3 p q l) * M1 (ix2 l (lane s i)) + c1 (ix2 0 (lane s i))) 0
      = dense (mean d (line g p) (col q s)) W1 b1 i := fun i => by
    have e : ∀ l, M1 (ix2 l (lane s i)) = quarter * (eye (seg l) s * W1 (ix2 (off l) i)) := fun l => by
      rw [hM1, seg_lane, off_lane]
    have t : ∀ k, corners (stack A B) (ix3 p q (lane s k)) = tent d (line g p) (col q s) k := fun k => by
      have := corners_apply d g A B hA hB p (col q s) k
      rwa [grp_col, sub_col] at this
    simp only [e, hc1, off_lane]
    rw [sum_block_quarter (fun l => corners (stack A B) (ix3 p q l)) (fun k => W1 (ix2 k i)) s]
    simp only [t]
    rfl
  -- the second
  have h2 : ∀ i : Fin 32, max (k0_pay2 (F := Ideal) A B M1 c1 M2 (ix2 (row p q) (lane s i)) + c2 (ix2 0 (lane s i))) 0
      = dense (dense (mean d (line g p) (col q s)) W1 b1) W2 b2 i := fun i => by
    have e : ∀ l, M2 (ix2 l (lane s i)) = eye (seg l) s * W2 (ix2 (off l) i) := fun l => by
      rw [hM2, seg_lane, off_lane]
    rw [pay2_read, hc2, off_lane]
    simp only [e]
    rw [sum_block (fun j => max (∑ i : Fin 128, corners (stack A B) (ix3 p q i) * M1 (ix2 i j) + c1 (ix2 0 j)) 0)
      (fun k => W2 (ix2 k i)) s]
    simp only [h1]
    rfl
  rw [pay1_read, hc3]
  simp only [hM3]
  rw [sum_block (fun j => max (k0_pay2 (F := Ideal) A B M1 c1 M2 (ix2 (row p q) j) + c2 (ix2 0 j)) 0) (fun k => W3 (ix2 k 0)) s]
  simp only [h2]
  rfl

end Cert.KernelIdeal.Pixel

end
-- ==== Proof.Array.lean ====
/-
  What the kernel's result array holds after its grid: at (r, q, s), the pixel at line `r` and column `s` of group `q`.

  Each grid point reads 16 lines and the one below (`own_read`, `below_read`) and the whole of every matrix and bias;
  what it writes back is its tile of the pixels (`flushed_eq`), and the 64 tiles cover the array (`cover`).
-/
module

public import proofs.«01_k».proof.Proof.Host
public import proofs.«01_k».proof.Proof.Tile

@[expose] public section

noncomputable section

namespace Cert.KernelIdeal.Pixel

open Idealize.ShloMosaic Idealize.ShloMosaic.TcCoe Idealize.ShloMosaic.ValueIdx
open Idealize.ShloMosaic.Pipeline (Dat Cfg Window)
open Cert.KernelIdeal Cert.KernelIdeal.Gen Cert.Grid

/-- A grid point's tile. -/
def tileOf (t : Fin cfg0.N) : Fin 64 := t.cast N_0

/-! ## Which block each point reads and writes -/

/-- Point `t` reads its own 16 lines, -/
theorem index_own : ∀ t : Fin grid0.N, win0_0.index t 0 = t.val ∧ win0_0.index t 1 = 0 ∧ win0_0.index t 2 = 0 := by decide +kernel
/-- and the line after them, or the last line, -/
theorem index_below : ∀ t : Fin grid0.N,
    win0_1.index t 0 = min (16 * t.val + 15 + 1) 1023 ∧ win0_1.index t 1 = 0 ∧ win0_1.index t 2 = 0 := by decide +kernel
/-- and writes its own 16 lines of the result; -/
theorem index_result : ∀ t : Fin grid0.N, win0_8.index t 0 = t.val ∧ win0_8.index t 1 = 0 ∧ win0_8.index t 2 = 0 := by decide +kernel
/-- the extents of the block it writes; -/
theorem extent_result : ∀ t : Fin grid0.N, win0_8.xsize (grid0.coords t) 0 = 16 ∧ win0_8.xsize (grid0.coords t) 1 = 256
    ∧ win0_8.xsize (grid0.coords t) 2 = 4 := by decide +kernel
/-- every other input it reads whole. -/
theorem index_whole : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) := by decide +kernel

section Run

variable (m : (ℓ : Loc nD τ sig) → Buf (Elt Ideal) ℓ) (c : Dev nD)

/-- A point's own lines. -/
theorem own_read (t : Fin cfg0.N) (p : Fin 16) (q : Fin 256) (l : Fin 128) :
    (iblk m c 0 t : S16x256x128.Idx → EReal) (ix3 p q l) = (V m c main_v0 : S1024x256x128.Idx → EReal) (ix3 (line (tileOf t) p) q l) := by
  show (V m c main_v0 : S1024x256x128.Idx → EReal) ((win0_0.rect t).emb (ix3 p q l)) = _
  refine congrArg _ (funext fun a => Fin.ext ?_)
  obtain ⟨h0, h1, h2⟩ := index_own t
  refine (Window.rect_emb_val win0_0 t (ix3 p q l) a).trans ?_
  fin_cases a
  · show win0_0.index t 0 * 16 + p.val = 16 * t.val + p.val
    rw [h0]; omega
  · show win0_0.index t 1 * 256 + q.val = q.val
    rw [h1]; omega
  · show win0_0.index t 2 * 128 + l.val = l.val
    rw [h2]; omega

/-- The line below them. -/
theorem below_read (t : Fin cfg0.N) (q : Fin 256) (l : Fin 128) :
    (iblk m c 1 t : S1x256x128.Idx → EReal) (ix3 0 q l)
      = (V m c main_v0 : S1024x256x128.Idx → EReal) (ix3 (nxt (line (tileOf t) 15)) q l) := by
  show (V m c main_v0 : S1024x256x128.Idx → EReal) ((win0_1.rect t).emb (ix3 0 q l)) = _
  refine congrArg _ (funext fun a => Fin.ext ?_)
  obtain ⟨h0, h1, h2⟩ := index_below t
  refine (Window.rect_emb_val win0_1 t (ix3 0 q l) a).trans ?_
  fin_cases a
  · show win0_1.index t 0 * 1 + 0 = min (16 * t.val + 15 + 1) 1023
    rw [h0]; omega
  · show win0_1.index t 1 * 256 + q.val = q.val
    rw [h1]; omega
  · show win0_1.index t 2 * 128 + l.val = l.val
    rw [h2]; omega

/-- The first matrix, whole. -/
theorem w1_read (t : Fin cfg0.N) : (iblk m c 2 t : S128x128.Idx → EReal) = V m c main_v9 := by
  funext j
  show (V m c main_v9 : S128x128.Idx → EReal) ((win0_2.rect t).emb j) = _
  refine congrArg _ (funext fun a => Fin.ext (Window.rect_emb_val_of_index_zero win0_2 t a ?_ j))
  have := (index_whole t).1
  fin_cases a
  exacts [this.1, this.2]

/-- The first bias, whole. -/
theorem b1_read (t : Fin cfg0.N) : (iblk m c 3 t : S1x128.Idx → EReal) = V m c main_v13 := by
  funext j
  show (V m c main_v13 : S1x128.Idx → EReal) ((win0_3.rect t).emb j) = _
  refine congrArg _ (funext fun a => Fin.ext (Window.rect_emb_val_of_index_zero win0_3 t a ?_ j))
  have := (index_whole t).2.1
  fin_cases a
  exacts [this.1, this.2]

/-- The second matrix, whole. -/
theorem w2_read (t : Fin cfg0.N) : (iblk m c 4 t : S128x128.Idx → EReal) = V m c main_v14 := by
  funext j
  show (V m c main_v14 : S128x128.Idx → EReal) ((win0_4.rect t).emb j) = _
  refine congrArg _ (funext fun a => Fin.ext (Window.rect_emb_val_of_index_zero win0_4 t a ?_ j))
  have := (index_whole t).2.2.1
  fin_cases a
  exacts [this.1, this.2]

/-- The second bias, whole. -/
theorem b2_read (t : Fin cfg0.N) : (iblk m c 5 t : S1x128.Idx → EReal) = V m c main_v18 := by
  funext j
  show (V m c main_v18 : S1x128.Idx → EReal) ((win0_5.rect t).emb j) = _
  refine congrArg _ (funext fun a => Fin.ext (Window.rect_emb_val_of_index_zero win0_5 t a ?_ j))
  have := (index_whole t).2.2.2.1
  fin_cases a
  exacts [this.1, this.2]

/-- The third matrix, whole. -/
theorem w3_read (t : Fin cfg0.N) : (iblk m c 6 t : S128x4.Idx → EReal) = V m c main_v19 := by
  funext j
  show (V m c main_v19 : S128x4.Idx → EReal) ((win0_6.rect t).emb j) = _
  refine congrArg _ (funext fun a => Fin.ext (Window.rect_emb_val_of_index_zero win0_6 t a ?_ j))
  have := (index_whole t).2.2.2.2.1
  fin_cases a
  exacts [this.1, this.2]

/-- The third bias, whole. -/
theorem b3_read (t : Fin cfg0.N) : (iblk m c 7 t : S1x4.Idx → EReal) = V m c main_v23 := by
  funext j
  show (V m c main_v23 : S1x4.Idx → EReal) ((win0_7.rect t).emb j) = _
  refine congrArg _ (funext fun a => Fin.ext (Window.rect_emb_val_of_index_zero win0_7 t a ?_ j))
  have := (index_whole t).2.2.2.2.2
  fin_cases a
  exacts [this.1, this.2]

/-! ## What the array holds -/

/-- The pixel at line `r`, column `x`, of the program's arguments. -/
def pixels (r x : Fin 1024) : EReal :=
  pixel (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) r x

/-- The result array in the kernel's layout: line, group, column of the group. -/
def sheet : Buf (Elt Ideal) ((c : Thread nD τ).loc main_v24) :=
  fun i : S1024x256x4.Idx => pixels m c (i 0) (col (i 1) (i 2))

/-- Three zero offsets. -/
theorem hz3 : (![0, 0, 0] : Fin 3 → Nat) = fun _ => 0 := funext fun a => by fin_cases a <;> rfl
/-- Two zero offsets. -/
theorem hz2 : (![0, 0] : Fin 2 → Nat) = fun _ => 0 := funext fun a => by fin_cases a <;> rfl

/-- What point `t` writes back is its tile of the pixels. -/
theorem flushed_eq (t : Fin cfg0.N) : (dats m 0 c).flushed 8 t = (win0_8.blk t).view.read (Elt Ideal) (sheet m c) := by
  show (cfg0.win 8).cut (grid0.coords t) ((dats m 0 c).after 8 t) = _
  rw [after0_8]
  unfold out0_8
  rw [View.canon_unit_zero hz3, View.ld_unit_zero hz3, View.ld_unit_zero hz3, View.ld_unit_zero hz2, View.ld_unit_zero hz2,
    View.ld_unit_zero hz2, View.ld_unit_zero hz2, View.ld_unit_zero hz2, View.ld_unit_zero hz2]
  funext y
  obtain ⟨p, q, s, rfl⟩ : ∃ (p : Fin 16) (q : Fin 256) (s : Fin 4), y = ix3 p q s := ⟨y 0, y 1, y 2, eq_ix3 y⟩
  have e : (win0_8.rect t).emb (ix3 p q s) = (ix3 (line (tileOf t) p) q s : S1024x256x4.Idx) := by
    refine funext fun a => Fin.ext ?_
    obtain ⟨h0, h1, h2⟩ := index_result t
    refine (Window.rect_emb_val win0_8 t (ix3 p q s) a).trans ?_
    fin_cases a
    · show win0_8.index t 0 * 16 + p.val = 16 * t.val + p.val
      rw [h0]; omega
    · show win0_8.index t 1 * 256 + q.val = q.val
      rw [h1]; omega
    · show win0_8.index t 2 * 4 + s.val = s.val
      rw [h2]; omega
  show k0_pay1 (F := Ideal) (k0_pay2 (F := Ideal) (iblk m c 0 t) (iblk m c 1 t) (iblk m c 2 t) (iblk m c 3 t) (iblk m c 4 t))
    (iblk m c 5 t) (iblk m c 6 t) (iblk m c 7 t) (ix3 p q s) = sheet m c ((win0_8.rect t).emb (ix3 p q s))
  rw [e]
  show _ = pixels m c (line (tileOf t) p) (col q s)
  refine tile_apply _ _ _ _ _ _ _ (tileOf t) _ _ _ _ _ _ _ _ (fun p x k => ?_) (fun x k => ?_) (fun l n => ?_) (fun l => ?_)
    (fun l n => ?_) (fun l => ?_) (fun l s => ?_) (fun s => ?_) p q s
  · exact (own_read m c t p _ _).trans (feat_apply m c _ x k)
  · exact (below_read m c t _ _).trans (feat_apply m c _ x k)
  · exact (congrFun (w1_read m c t) _).trans (w1_apply m c l n)
  · exact (congrFun (b1_read m c t) _).trans (b1_apply m c l)
  · exact (congrFun (w2_read m c t) _).trans (w2_apply m c l n)
  · exact (congrFun (b2_read m c t) _).trans (b2_apply m c l)
  · exact (congrFun (w3_read m c t) _).trans (w3_apply m c l s)
  · exact (congrFun (b3_read m c t) _).trans (b3_apply m c s)

/-- An index of the result array is in point `t`'s block when its line is one of the point's 16. -/
theorem mem_blk (t : Fin cfg0.N) (i : S1024x256x4.Idx) (h : 16 * t.val ≤ (i 0).val ∧ (i 0).val < 16 * t.val + 16) :
    i ∈ ((cfg0.win 8).blk t).view.set := by
  show i ∈ ((View.whole main_v24).slice (win0_8.rect t)).set
  rw [View.set_slice_whole, Rect.mem_set_unit]
  obtain ⟨h0, h1, h2⟩ := index_result t
  obtain ⟨x0, x1, x2⟩ := extent_result t
  have b1 : (i 1).val < 256 := (i 1).isLt
  have b2 : (i 2).val < 4 := (i 2).isLt
  intro a
  fin_cases a
  · show win0_8.index t 0 * 16 ≤ (i 0).val ∧ (i 0).val < win0_8.index t 0 * 16 + win0_8.xsize (grid0.coords t) 0
    rw [h0, x0]; omega
  · show win0_8.index t 1 * 256 ≤ (i 1).val ∧ (i 1).val < win0_8.index t 1 * 256 + win0_8.xsize (grid0.coords t) 1
    rw [h1, x1]; omega
  · show win0_8.index t 2 * 4 ≤ (i 2).val ∧ (i 2).val < win0_8.index t 2 * 4 + win0_8.xsize (grid0.coords t) 2
    rw [h2, x2]; omega

/-- The tiles cover the array. -/
theorem cover (i : S1024x256x4.Idx) : ∃ t : Fin cfg0.N, (cfg0.win 8).flush t = true ∧ i ∈ ((cfg0.win 8).blk t).view.set := by
  have h : (i 0).val < 1024 := (i 0).isLt
  have hN : cfg0.N = 64 := N_0
  have ht : (i 0).val / 16 < cfg0.N := by omega
  refine ⟨⟨(i 0).val / 16, ht⟩, flush0_8 _, mem_blk _ i ?_⟩
  show 16 * ((i 0).val / 16) ≤ (i 0).val ∧ (i 0).val < 16 * ((i 0).val / 16) + 16
  omega

/-- So after the grid the array holds the pixels. -/
theorem array_eq : (dats m 0 c).arrAt 8 cfg0.N = sheet m c :=
  (dats m 0 c).arrAt_eq_of_cover 8 (sheet m c) (fun t _ => flushed_eq m c t) cover

end Run

end Cert.KernelIdeal.Pixel

end
-- ==== Proof.Pre.lean ====
/-
  What the precondition `pixel_grid` says, read at an index: every interpolation weight is one half, and pixel
  `1024 r + c` names the grid lines `r`, `c` and the next ones.
-/
module

public import proofs.«01_k».proof.Defs
public import proofs.«01_k».proof.Proof.Gen.Pre_pixel_grid
public import proofs.«01_k».proof.Proof.Spec
public import Idealize.ShloMosaic.Lib.ReduceAll
public import Idealize.ShloMosaic.Lib.Pipeline.Value
public import Idealize.ShloMosaic.PureOps.Ideal.Laws

@[expose] public section

noncomputable section

namespace Cert.Grid

open Idealize.ShloMosaic Idealize.ShloMosaic.ValueIdx

/-- One half, as an extended real. -/
def half : EReal := ((1 / 2 : ℝ) : EReal)

/-- The word 0x3F000000 is one half. -/
theorem ofBits_half : Ideal.ofBits .f32 0x3F000000#32 = half := by
  simp [Ideal.ofBits, Ideal.ieee, half, -EReal.coe_mul]; norm_num

/-- The number of pixel (r, c). -/
def pix (r c : Fin 1024) : Fin 1048576 := ⟨1024 * r.val + c.val, by omega⟩

/-- An integer array over the pixels. -/
abbrev PixInts := (⟨1, ![1048576]⟩ : Shape).Idx → BitVec 32

/-- The precondition, read at an index. -/
structure OnGrid (lerp : (⟨2, ![1048576, 2]⟩ : Shape).Idx → EReal) (x0 y0 x1 y1 : PixInts) : Prop where
  lerp_eq : ∀ i, lerp i = half
  x0_eq : ∀ r c, x0 (ix1 (pix r c)) = BitVec.ofNat 32 c.val
  y0_eq : ∀ r c, y0 (ix1 (pix r c)) = BitVec.ofNat 32 r.val
  x1_eq : ∀ r c, x1 (ix1 (pix r c)) = BitVec.ofNat 32 (nxt c).val
  y1_eq : ∀ r c, y1 (ix1 (pix r c)) = BitVec.ofNat 32 (nxt r).val

/-- The line after line `n`, in 32-bit words. -/
theorem minsi_next : ∀ n : Fin 1024,
    IntOp.minsi (IntOp.addi (BitVec.ofNat 32 n.val) 1#32) 1023#32 = BitVec.ofNat 32 (nxt n).val := by decide +kernel

/-- Words that compare equal are equal. -/
theorem eq_of_cmpi {a b : BitVec 32} (h : IntOp.cmpi .eq a b = 1#1) : a = b := by
  simp only [IntOp.cmpi] at h
  by_contra hn
  rw [beq_false_of_ne hn] at h
  exact absurd h (by decide)

/-- Numbers that compare equal are equal. -/
theorem eq_of_cmpf {a b : EReal} (h : Ideal.cmp .oeq a b = 1#1) : a = b := by
  by_contra hn
  simp only [Ideal.cmp, decide_eq_false hn] at h
  exact absurd h (by decide)

/-- A conjunction of bits is one only if both are. -/
theorem and_one {a b : BitVec 1} (h : IntOp.andi a b = 1#1) : a = 1#1 ∧ b = 1#1 := by
  revert a b; decide

/-- A flat array reshaped to the square reads pixel (r, c) at number `1024 r + c`. -/
theorem square_apply (x : PixInts) (h : (⟨1, ![1048576]⟩ : Shape).ShapeCasts ⟨2, ![1024, 1024]⟩) (r c : Fin 1024) :
    shapeCast ⟨2, ![1024, 1024]⟩ x h (ix2 r c) = x (ix1 (pix r c)) := by
  refine shapeCast_apply x h _ _ ?_
  rw [Shape.rowMajor_val_one, Shape.rowMajor_val_two]
  show 1024 * r.val + c.val = r.val * 1024 + c.val
  omega

open Cert.Pre_pixel_grid in
/-- The predicate holding of the arguments says they are on the grid. -/
theorem onGrid_of_pre {x0 : FVec Ideal S1x32 .f32} {x1 : FVec Ideal S1024x1024x32 .f32} {x2 : FVec Ideal S32x32 .f32} {x3 : FVec Ideal S32 .f32}
    {x4 : FVec Ideal S32x32 .f32} {x5 : FVec Ideal S32 .f32} {x6 : FVec Ideal S32x1 .f32} {x7 : FVec Ideal S1 .f32}
    {x8 : FVec Ideal S1048576x2 .f32} {x9 x10 x11 x12 : IVec S1048576 32}
    (h : Cert.Pre_pixel_grid.fn (F := Ideal) x0 x1 x2 x3 x4 x5 x6 x7 x8 x9 x10 x11 x12 = fun _ => 1#1) :
    OnGrid x8 x9 x10 x11 x12 := by
  have e := congrFun h ix0
  dsimp only [fn, fn_part1, andi] at e
  obtain ⟨e, h12⟩ := and_one e
  obtain ⟨e, h11⟩ := and_one e
  obtain ⟨e, h10⟩ := and_one e
  obtain ⟨h8, h9⟩ := and_one e
  haveI : Subsingleton S_.Idx := ⟨fun a b => funext fun i => i.elim0⟩
  have a8 := Host.reduce_andi_all _ _ _ _ _ h8
  have a9 := Host.reduce_andi_all _ _ _ _ _ h9
  have a10 := Host.reduce_andi_all _ _ _ _ _ h10
  have a11 := Host.reduce_andi_all _ _ _ _ _ h11
  have a12 := Host.reduce_andi_all _ _ _ _ _ h12
  refine ⟨fun i => ?_, fun r c => ?_, fun r c => ?_, fun r c => ?_, fun r c => ?_⟩
  · exact (eq_of_cmpf (a8 i)).trans ofBits_half
  · have := eq_of_cmpi (a9 (ix2 r c))
    rw [square_apply] at this
    exact this
  · have := eq_of_cmpi (a10 (ix2 r c))
    rw [square_apply] at this
    exact this
  · have := eq_of_cmpi (a11 (ix2 r c))
    rw [square_apply] at this
    exact this.trans (minsi_next c)
  · have := eq_of_cmpi (a12 (ix2 r c))
    rw [square_apply] at this
    exact this.trans (minsi_next r)

end Cert.Grid

end
-- ==== Proof.RefValue.lean ====
/-
  What the reference computes: under the precondition, pixel (r, c) of its result is `Grid.pixel`.

  The steps follow the program. An index column wraps its negative entries, of which there are none (`wrap_line`,
  `column_apply`). The four gathers read the four corners of the pixel (`corner_a` … `corner_d`), and each weight is a
  quarter (`weight_a` … `weight_d`), so the weighted sum is the mean (`features_apply`). Then come the three layers
  (`layer1_apply`, `layer2_apply`, `result_apply`).
-/
module

public import proofs.«01_k».proof.Proof.Pre
public import proofs.«01_k».proof.Proof.Gen.ReferenceIdeal.Read

@[expose] public section

noncomputable section

namespace Cert.ReferenceIdeal.Pixel

open Idealize.ShloMosaic Idealize.ShloMosaic.TcCoe Idealize.ShloMosaic.ValueIdx
open Cert.ReferenceIdeal Cert.ReferenceIdeal.Gen Cert.ReferenceIdeal.Read Cert.Grid

/-- A grid line's word is not negative, so wrapping leaves it. -/
theorem wrap_line : ∀ n : Fin 1024,
    Scalar.select (IntOp.cmpi .slt (BitVec.ofNat 32 n.val) 0#32) (IntOp.addi (BitVec.ofNat 32 n.val) 1024#32) (BitVec.ofNat 32 n.val)
      = BitVec.ofNat 32 n.val := by decide +kernel

/-- A grid line's word, clamped into the grid, is the line. -/
theorem clamp_line : ∀ n : Fin 1024, min (BitVec.ofNat 32 n.val).toInt.toNat 1023 = n.val := by decide +kernel

/-- A row of the gather, its two start indices grid lines `a` and `b`: the features at (a, b). -/
theorem gather_apply (x : FVec Ideal S1024x1024x32 .f32) (idx : IVec S1048576x2 32) (p : Fin 1048576) (k : Fin 32) (a b : Fin 1024)
    (ha : idx (ix2 p 0) = BitVec.ofNat 32 a.val) (hb : idx (ix2 p 1) = BitVec.ofNat 32 b.val) :
    Host.gather gather_S1024x1024x32_S1048576x2_S1048576x32_1_01_n_n_01_1_1132 x idx (ix2 p k) = x (ix3 a b k) := by
  unfold Host.gather
  congr 1
  funext d
  refine Fin.ext ?_
  generalize hG : gather_S1024x1024x32_S1048576x2_S1048576x32_1_01_n_n_01_1_1132 = G
  show G.start (ix2 p k) idx d + G.batchCoord (ix2 p k) d + G.offCoord (ix2 p k) d = _
  subst hG
  rw [GatherDims.batchCoord_eq_zero _ _ _ List.not_mem_nil, Nat.add_zero]
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases hd with rfl | rfl | rfl
  · rw [GatherDims.offCoord_eq_zero _ _ _ (fun h => ((GatherDims.mem_sKept _ _).mp h).1 (by decide)), Nat.add_zero]
    unfold GatherDims.start
    rw [dif_pos (by decide)]
    have hs : gather_S1024x1024x32_S1048576x2_S1048576x32_1_01_n_n_01_1_1132.siIdx (ix2 p k) ⟨0, by decide⟩ = ix2 p 0 := by
      funext e
      match e with
      | ⟨0, _⟩ => rfl
      | ⟨1, _⟩ => rfl
    refine Eq.trans ?_ (clamp_line a)
    rw [← ha, ← hs]
    rfl
  · rw [GatherDims.offCoord_eq_zero _ _ _ (fun h => ((GatherDims.mem_sKept _ _).mp h).1 (by decide)), Nat.add_zero]
    unfold GatherDims.start
    rw [dif_pos (by decide)]
    have hs : gather_S1024x1024x32_S1048576x2_S1048576x32_1_01_n_n_01_1_1132.siIdx (ix2 p k) ⟨1, by decide⟩ = ix2 p 1 := by
      funext e
      match e with
      | ⟨0, _⟩ => rfl
      | ⟨1, _⟩ => rfl
    refine Eq.trans ?_ (clamp_line b)
    rw [← hb, ← hs]
    rfl
  · unfold GatherDims.start
    rw [dif_neg (by decide), Nat.zero_add]
    rfl

/-- Two index columns side by side, read at either: the start indices of row `p`. -/
theorem pair_apply (u v : IVec S1048576x1 32) (p : Fin 1048576) :
    concatenate S1048576x2 1 [⟨S1048576x1, u⟩, ⟨S1048576x1, v⟩] concatenates_S1048576x1_S1048576x1_S1048576x2_d1 (ix2 p 0) = u (ix2 p 0)
    ∧ concatenate S1048576x2 1 [⟨S1048576x1, u⟩, ⟨S1048576x1, v⟩] concatenates_S1048576x1_S1048576x1_S1048576x2_d1 (ix2 p 1) = v (ix2 p 0) := by
  constructor
  · refine concatenate_pair_apply_left (t := S1048576x2) 1 u v _ (ix2 p 0) rfl (ix2 p 0) fun b => ?_
    match b with
    | ⟨0, _⟩ => rfl
    | ⟨1, _⟩ => rfl
  · refine concatenate_pair_apply_right (t := S1048576x2) 1 u v _ (ix2 p 1) rfl rfl (ix2 p 0) (fun b hb => ?_) rfl
    match b with
    | ⟨0, _⟩ => rfl
    | ⟨1, _⟩ => exact absurd rfl hb

/-! ## The index columns -/

/-- A column of grid lines, wrapped and laid out as a column, still holds the lines. -/
theorem column_apply {y : PixInts} {p : Fin 1048576} {n : Fin 1024} (h : y (ix1 p) = BitVec.ofNat 32 n.val) :
    val_main_v10 (F := Ideal) y (ix2 p 0) = BitVec.ofNat 32 n.val := by
  rw [val_main_v10_apply, show idx_main_v10 (ix2 p 0) = ix1 p from eq_ix1 _, val_main_v4_apply, val_main_v1_apply, val_main_v3_apply, val_main_v0_apply,
    val_main_v2_apply, h]
  exact wrap_line n

section Corners
variable (d : FVec Ideal S1024x1024x32 .f32) {x y : PixInts} {p : Fin 1048576} {a b : Fin 1024} (k : Fin 32)

/-- The gather at (y0, x0). -/
theorem corner_a (hx : x (ix1 p) = BitVec.ofNat 32 b.val) (hy : y (ix1 p) = BitVec.ofNat 32 a.val) :
    val_main_v13 (F := Ideal) d x y (ix2 p k) = d (ix3 a b k) :=
  gather_apply d _ p k a b ((pair_apply _ _ p).1.trans (column_apply hy)) ((pair_apply _ _ p).2.trans (column_apply hx))

/-- The gather at (y0, x1). -/
theorem corner_b (hx : x (ix1 p) = BitVec.ofNat 32 b.val) (hy : y (ix1 p) = BitVec.ofNat 32 a.val) :
    val_main_v27 (F := Ideal) d y x (ix2 p k) = d (ix3 a b k) :=
  gather_apply d _ p k a b ((pair_apply _ _ p).1.trans (column_apply hy)) ((pair_apply _ _ p).2.trans (column_apply hx))

/-- The gather at (y1, x0). -/
theorem corner_c (hx : x (ix1 p) = BitVec.ofNat 32 b.val) (hy : y (ix1 p) = BitVec.ofNat 32 a.val) :
    val_main_v41 (F := Ideal) d x y (ix2 p k) = d (ix3 a b k) :=
  gather_apply d _ p k a b ((pair_apply _ _ p).1.trans (column_apply hy)) ((pair_apply _ _ p).2.trans (column_apply hx))

/-- The gather at (y1, x1). -/
theorem corner_d (hx : x (ix1 p) = BitVec.ofNat 32 b.val) (hy : y (ix1 p) = BitVec.ofNat 32 a.val) :
    val_main_v55 (F := Ideal) d x y (ix2 p k) = d (ix3 a b k) :=
  gather_apply d _ p k a b ((pair_apply _ _ p).1.trans (column_apply hy)) ((pair_apply _ _ p).2.trans (column_apply hx))

end Corners

/-! ## The weights -/

/-- The word 0x3F800000 is one. -/
theorem ofBits_one : Ideal.ofBits .f32 0x3F800000#32 = 1 := by
  simp [Ideal.ofBits, Ideal.ieee, -EReal.coe_mul]; norm_num

/-- The word 0 is zero. -/
theorem ofBits_zero : Ideal.ofBits .f32 0x00000000#32 = 0 := by
  simp [Ideal.ofBits, Ideal.ieee]

/-- One less a half is a half. -/
theorem one_sub_half : (1 : EReal) - half = half := by
  unfold half
  rw [← EReal.coe_one, ← EReal.coe_sub]; norm_num

/-- A half of a half is a quarter. -/
theorem half_mul_half : half * half = quarter := by
  unfold half quarter
  rw [← EReal.coe_mul]; norm_num

section Weights
variable {w : FVec Ideal S1048576x2 .f32} (hw : ∀ i, w i = half) (i : S1048576x32.Idx)
include hw

/-- The weight of corner (y0, x0) is a quarter. -/
theorem weight_a : val_main_v70 (F := Ideal) w i = quarter := by
  rw [val_main_v70_apply, val_main_v62_apply, val_main_v59_apply, val_main_v61_apply, val_main_v58_apply, val_main_v60_apply, val_main_v56_apply,
    val_main_v57_apply, hw, hw]
  show (Ideal.ofBits .f32 0x3F800000#32 - half) * (Ideal.ofBits .f32 0x3F800000#32 - half) = quarter
  rw [ofBits_one, one_sub_half, half_mul_half]

/-- The weight of corner (y0, x1) is a quarter. -/
theorem weight_b : val_main_v72 (F := Ideal) w i = quarter := by
  rw [val_main_v72_apply, val_main_v65_apply, val_main_v64_apply, val_main_v63_apply, val_main_v56_apply, val_main_v57_apply, hw, hw]
  show half * (Ideal.ofBits .f32 0x3F800000#32 - half) = quarter
  rw [ofBits_one, one_sub_half, half_mul_half]

/-- The weight of corner (y1, x0) is a quarter. -/
theorem weight_c : val_main_v75 (F := Ideal) w i = quarter := by
  rw [val_main_v75_apply, val_main_v68_apply, val_main_v67_apply, val_main_v66_apply, val_main_v56_apply, val_main_v57_apply, hw, hw]
  show (Ideal.ofBits .f32 0x3F800000#32 - half) * half = quarter
  rw [ofBits_one, one_sub_half, half_mul_half]

/-- The weight of corner (y1, x1) is a quarter. -/
theorem weight_d : val_main_v78 (F := Ideal) w i = quarter := by
  rw [val_main_v78_apply, val_main_v69_apply, val_main_v56_apply, val_main_v57_apply, hw, hw]
  exact half_mul_half

end Weights

/-! ## The features and the three layers -/

section Layers
variable (d : FVec Ideal S1024x1024x32 .f32) (W1 : FVec Ideal S32x32 .f32) (b1 : FVec Ideal S32 .f32) (W2 : FVec Ideal S32x32 .f32)
  (b2 : FVec Ideal S32 .f32) (W3 : FVec Ideal S32x1 .f32) (b3 : FVec Ideal S1 .f32)
  {w : FVec Ideal S1048576x2 .f32} {x0 y0 x1 y1 : PixInts} (h : OnGrid w x0 y0 x1 y1) (r c : Fin 1024)
include h

/-- The interpolated features of pixel (r, c) are the mean of its corners. -/
theorem features_apply (k : Fin 32) : val_main_v80 (F := Ideal) d w x0 y0 x1 y1 (ix2 (pix r c) k) = mean d r c k := by
  rw [val_main_v80_apply, val_main_v77_apply, val_main_v74_apply, val_main_v71_apply, val_main_v73_apply, val_main_v76_apply, val_main_v79_apply,
    weight_a h.lerp_eq, weight_b h.lerp_eq, weight_c h.lerp_eq, weight_d h.lerp_eq,
    corner_a d k (h.x0_eq r c) (h.y0_eq r c), corner_b d k (h.x1_eq r c) (h.y0_eq r c), corner_c d k (h.x0_eq r c) (h.y1_eq r c),
    corner_d d k (h.x1_eq r c) (h.y1_eq r c)]
  exact mean_eq d r c k

/-- Row (r, c) of the first layer's output. -/
theorem layer1_apply (i : Fin 32) :
    val_main_v85 (F := Ideal) d W1 b1 w x0 y0 x1 y1 (ix2 (pix r c) i) = dense (mean d r c) W1 b1 i := by
  rw [val_main_v85_apply, val_main_v84_apply, val_main_v81_apply, val_main_v83_apply, val_main_v82_apply, val_main_call0_v0_apply]
  show max (_ + _) (Ideal.ofBits .f32 0x00000000#32) = max (_ + _) 0
  rw [ofBits_zero]
  congr 2
  · refine Finset.sum_congr rfl fun k _ => ?_
    rw [show lidx_main_v81 (ix2 (pix r c) i) k = ix2 (pix r c) k from eq_ix2 _, features_apply d h r c k]
    exact congrArg (fun j => _ * W1 j) (eq_ix2 _)
  · exact congrArg b1 (eq_ix1 _)

/-- Row (r, c) of the second layer's output. -/
theorem layer2_apply (i : Fin 32) :
    val_main_v90 (F := Ideal) d W1 b1 W2 b2 w x0 y0 x1 y1 (ix2 (pix r c) i) = dense (dense (mean d r c) W1 b1) W2 b2 i := by
  rw [val_main_v90_apply, val_main_v89_apply, val_main_v86_apply, val_main_v88_apply, val_main_v87_apply, val_main_call1_v0_apply]
  show max (_ + _) (Ideal.ofBits .f32 0x00000000#32) = max (_ + _) 0
  rw [ofBits_zero]
  congr 2
  · refine Finset.sum_congr rfl fun k _ => ?_
    rw [show lidx_main_v86 (ix2 (pix r c) i) k = ix2 (pix r c) k from eq_ix2 _, layer1_apply d W1 b1 h r c k]
    exact congrArg (fun j => _ * W2 j) (eq_ix2 _)
  · exact congrArg b2 (eq_ix1 _)

/-- Pixel (r, c) of the reference's result. -/
theorem result_apply :
    val_main_v95 (F := Ideal) d W1 b1 W2 b2 W3 b3 w x0 y0 x1 y1 (ix4 0 0 r c) = pixel d W1 b1 W2 b2 W3 b3 r c := by
  have e : idx_main_v95 (ix4 0 0 r c) = ix2 (pix r c) 0 := by
    refine (eq_ix2 _).trans ?_
    refine congrArg (fun p => ix2 p _) (Fin.ext ?_)
    show (((0 * 1 + 0) * 1024 + r.val) * 1024 + c.val) / 1 = 1024 * r.val + c.val
    omega
  rw [val_main_v95_apply, e, val_main_v94_apply, val_main_v91_apply, val_main_v93_apply, val_main_v92_apply]
  show _ + _ = (_ + _ : EReal)
  congr 1
  · refine Finset.sum_congr rfl fun k _ => ?_
    rw [show lidx_main_v91 (ix2 (pix r c) 0) k = ix2 (pix r c) k from eq_ix2 _, layer2_apply d W1 b1 W2 b2 h r c k]
    exact congrArg (fun j => _ * W3 j) (eq_ix2 _)
  · exact congrArg b3 (eq_ix1 _)

end Layers

end Cert.ReferenceIdeal.Pixel

end
-- ==== Proof.Run.lean ====
/-
  The two runs: the kernel's result is the image of pixels, and so, under the precondition, is the reference's.

  After the grid the kernel's host lays the sheet out as an image (`image_eq`); `kernel_run` reads the finished run at
  that result. `reference_eq` is the reference's side, whose run is stated with its module.
-/
module

public import proofs.«01_k».proof.Proof.Array
public import proofs.«01_k».proof.Proof.RefValue

@[expose] public section

noncomputable section

namespace Cert.KernelIdeal.Pixel

open Idealize.ShloMosaic Idealize.ShloMosaic.TcCoe Idealize.ShloMosaic.ValueIdx Idealize.SL.Sem
open Cert.KernelIdeal Cert.KernelIdeal.Gen Cert.Grid

variable (m : (ℓ : Loc nD τ sig) → Buf (Elt Ideal) ℓ) (ρ : Dev nD → PrngReg)

/-- The image of pixels. -/
def image (c : Dev nD) : Buf (Elt Ideal) ((c : Thread nD τ).loc main_v25) :=
  fun i : S1x1x1024x1024.Idx => pixels m c (i 2) (i 3)

/-- The sheet laid out as an image. -/
theorem sheet_cast (c : Dev nD) :
    shapeCast S1x1x1024x1024 (sheet m c : S1024x256x4.Idx → EReal) shapeCasts_S1024x256x4_S1x1x1024x1024 = image m c := by
  funext i
  obtain ⟨u, v, r, x, rfl⟩ : ∃ (u v : Fin 1) (r x : Fin 1024), i = ix4 u v r x := ⟨i 0, i 1, i 2, i 3, eq_ix4 i⟩
  refine (shapeCast_apply _ _ _ (ix3 r (grp x) (sub x)) ?_).trans ?_
  · rw [Shape.rowMajor_val_three, Shape.rowMajor_val_four]
    show (r.val * 256 + x.val / 4) * 4 + x.val % 4 = ((u.val * 1 + v.val) * 1024 + r.val) * 1024 + x.val
    omega
  · show pixels m c r (col (grp x) (sub x)) = pixels m c r x
    rw [col_grp_sub]

/-- What the host leaves in the result after the grid. -/
theorem image_eq (c : Dev nD) : Pipeline.afterTail₀ cfgs (dats m) 0 (V0 m) [hostOps1] c main_v25 = image m c := by
  have h : Pipeline.withArrays (cfgs 0).spec c (V0 m c) (fun w => (dats m 0 c).arrAt w (cfgs 0).N) (Proc.devRef .tc main_v24) = sheet m c :=
    ((dats m 0 c).withArrays_arrAt launch₀0.sharedIn (V0 m c) (A_eq m c) 8).trans (array_eq m c)
  unfold Pipeline.afterTail₀
  simp only [hostOps1, List.flatten_cons, List.flatten_nil, List.append_nil]
  refine Eq.trans ?_ (sheet_cast m c)
  rw [← h]
  after_results_simp <;> rfl

/-- The kernel's run, its result read. -/
theorem result_run : θ_run defs (onTc (τ := τ) (main (F := Ideal))) ⟨m, fun _ => 0, ρ⟩ (fun r => ∀ c : Dev nD,
      r.2.mem ((c : Thread nD τ).loc main_v25) = image m c) :=
  (θ_run defs _ _).mono (fun _ h c =>
    ((h c).2 main_v25 (Pipeline.mem_restRefs_of main_v25 (by decide) (by decide))).trans (image_eq m c)) (run_main m ρ)

/-- The kernel's run: its result is the image, and its arguments end as they began. -/
theorem kernel_run : θ_run defs (onTc (τ := τ) (main (F := Ideal))) ⟨m, fun _ => 0, ρ⟩ (fun r => ∀ c : Dev nD,
      r.2.mem ((c : Thread nD τ).loc main_v25) = image m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)) :=
  (θ_run defs _ _).mono (fun _ h c => ⟨h.1 c, h.2 c⟩) (θ_run_and (result_run m ρ) (unchanged m ρ))

end Cert.KernelIdeal.Pixel

namespace Cert.ReferenceIdeal.Pixel

open Idealize.ShloMosaic Idealize.ShloMosaic.TcCoe Idealize.ShloMosaic.ValueIdx
open Cert.ReferenceIdeal Cert.ReferenceIdeal.Gen Cert.Grid

/-- The reference's result, at every index, is the pixel its last two coordinates name. -/
theorem reference_eq {d : Feat} {W1 : Mat 32 32} {b1 : Bias 32} {W2 : Mat 32 32} {b2 : Bias 32} {W3 : Mat 32 1} {b3 : Bias 1}
    {w : FVec Ideal S1048576x2 .f32} {x0 y0 x1 y1 : IVec S1048576 32} (h : OnGrid w x0 y0 x1 y1) :
    Read.val_main_v95 (F := Ideal) d W1 b1 W2 b2 W3 b3 w x0 y0 x1 y1
      = fun i : S1x1x1024x1024.Idx => pixel d W1 b1 W2 b2 W3 b3 (i 2) (i 3) := by
  funext i
  obtain ⟨u, v, r, c, rfl⟩ : ∃ (u v : Fin 1) (r c : Fin 1024), i = ix4 u v r c := ⟨i 0, i 1, i 2, i 3, eq_ix4 i⟩
  obtain rfl : u = 0 := Subsingleton.elim _ _
  obtain rfl : v = 0 := Subsingleton.elim _ _
  exact result_apply d W1 b1 W2 b2 W3 b3 h r c

end Cert.ReferenceIdeal.Pixel

end
-- ==== Proof.lean ====
/-
  The proof of `Cert.Claim`.

  `frame_reference` is the reference's frame. `algebraic` is the claim on the values: both programs end with the same
  image, the kernel's by `KernelIdeal.Pixel.kernel_run`, the reference's by its own run and `reference_eq`. `claim`
  assembles the seven parts.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pixel_grid
public import proofs.«01_k».proof.Proof.Gen.ReferenceIdeal.Run
public import proofs.«01_k».proof.Proof.Gen.ReferenceIdeal.Read
public import proofs.«01_k».proof.Proof.Run
public import Idealize.ShloMosaic.Lib.Quiescent
public import Idealize.ShloMosaic.Adequacy
public import Idealize.ShloMosaic.Init

@[expose] public section

noncomputable section

namespace Cert.Proof

open Idealize.ShloMosaic Idealize.SL.Sem Cert.Grid

/-- The reference's frame: it terminates, its arguments end as they began, and no semaphore is left raised. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On arguments that are the pixel grid, kernel and reference end with the same image. -/
theorem algebraic : Cert.algebraic_KernelIdeal_ReferenceIdeal_pre_pixel_grid := by
  intro m ρ m' ρ' hpre hagree
  refine ⟨fun c => Cert.KernelIdeal.Pixel.image m c, Cert.KernelIdeal.Pixel.kernel_run m ρ, ?_⟩
  refine (θ_run Cert.ReferenceIdeal.defs _ _).mono (fun r h c => ⟨(h c).1.trans ?_, (h c).2⟩)
    (Cert.ReferenceIdeal.Value.run (F := Ideal) m' ρ')
  obtain ⟨_, e1, e2, e3, e4, e5, e6, e7, e8, e9, e10, e11, e12⟩ := hagree c
  rw [Cert.ReferenceIdeal.Read.val_main_v95_eq, e1, e2, e3, e4, e5, e6, e7, e8, e9, e10, e11, e12]
  exact Cert.ReferenceIdeal.Pixel.reference_eq (onGrid_of_pre (hpre c))

/-- Everything the certificate claims. -/
theorem claim : Cert.Claim :=
  ⟨Cert.Kernel.Gen.facts, Cert.KernelIdeal.Gen.facts, Cert.ReferenceIdeal.Gen.facts, Cert.Pre_pixel_grid.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    algebraic⟩

end Cert.Proof

end
